-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "sixth" .f32 0x3E2AAAAB#32 ((1 / 6 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x12288 : Shape := ⟨3, ![3, 640, 12288]⟩
abbrev S3x640 : Shape := ⟨2, ![3, 640]⟩
abbrev S12288x160 : Shape := ⟨2, ![12288, 160]⟩
abbrev S3x640x6 : Shape := ⟨3, ![3, 640, 6]⟩
abbrev S3 : Shape := ⟨1, ![3]⟩
abbrev S1920x12288 : Shape := ⟨2, ![1920, 12288]⟩
abbrev S160x12288 : Shape := ⟨2, ![160, 12288]⟩
abbrev S3x6x640 : Shape := ⟨3, ![3, 6, 640]⟩
abbrev S1x160 : Shape := ⟨2, ![1, 160]⟩
abbrev S3x160x640 : Shape := ⟨3, ![3, 160, 640]⟩
abbrev S1 : Shape := ⟨1, ![1]⟩
abbrev S_ : Shape := ⟨0, ![]⟩
abbrev S640x12288 : Shape := ⟨2, ![640, 12288]⟩
abbrev S1x128 : Shape := ⟨2, ![1, 128]⟩
abbrev S160x128 : Shape := ⟨2, ![160, 128]⟩
abbrev S1x6x128 : Shape := ⟨3, ![1, 6, 128]⟩
abbrev S6x128 : Shape := ⟨2, ![6, 128]⟩
abbrev S160 : Shape := ⟨1, ![160]⟩
abbrev S160x1 : Shape := ⟨2, ![160, 1]⟩
abbrev S160x640 : Shape := ⟨2, ![160, 640]⟩
abbrev S128 : Shape := ⟨1, ![128]⟩
abbrev S1x160x128 : Shape := ⟨3, ![1, 160, 128]⟩
abbrev S128x160 : Shape := ⟨2, ![128, 160]⟩
abbrev S1x1 : Shape := ⟨2, ![1, 1]⟩
abbrev S3x640x160 : Shape := ⟨3, ![3, 640, 160]⟩

abbrev nBuf : Space → Nat
  | .hbm => 15
  | .vmem => 9
  | .smem => 1
  | _ => 0

abbrev bufTy : (tb : Table) → Fin (tcTables nBuf tb) → BufTy
  | .hbm, ⟨0, _⟩ => ⟨S3x640x12288, .fp8e4m3⟩
  | .hbm, ⟨1, _⟩ => ⟨S3x640, .f32⟩
  | .hbm, ⟨2, _⟩ => ⟨S12288x160, .bf16⟩
  | .hbm, ⟨3, _⟩ => ⟨S3x640x6, .i32⟩
  | .hbm, ⟨4, _⟩ => ⟨S3, .i32⟩
  | .hbm, ⟨5, _⟩ => ⟨S1920x12288, .fp8e4m3⟩
  | .hbm, ⟨6, _⟩ => ⟨S160x12288, .bf16⟩
  | .hbm, ⟨7, _⟩ => ⟨S3x6x640, .i32⟩
  | .hbm, ⟨8, _⟩ => ⟨S3x640, .f32⟩
  | .hbm, ⟨9, _⟩ => ⟨S3x640, .f32⟩
  | .hbm, ⟨10, _⟩ => ⟨S1x160, .f32⟩
  | .hbm, ⟨11, _⟩ => ⟨S3x640, .f32⟩
  | .hbm, ⟨12, _⟩ => ⟨S3x160x640, .f32⟩
  | .hbm, ⟨13, _⟩ => ⟨S160, .f32⟩
  | .hbm, ⟨14, _⟩ => ⟨S3x640x160, .f32⟩
  | .local _ .vmem, ⟨0, _⟩ => ⟨S3x640, .f32⟩
  | .local _ .vmem, ⟨1, _⟩ => ⟨S160x12288, .bf16⟩
  | .local _ .vmem, ⟨2, _⟩ => ⟨S3x6x640, .i32⟩
  | .local _ .vmem, ⟨3, _⟩ => ⟨S3x640, .f32⟩
  | .local _ .vmem, ⟨4, _⟩ => ⟨S3x640, .f32⟩
  | .local _ .vmem, ⟨5, _⟩ => ⟨S1x160, .f32⟩
  | .local _ .vmem, ⟨6, _⟩ => ⟨S3x640, .f32⟩
  | .local _ .vmem, ⟨7, _⟩ => ⟨S3x160x640, .f32⟩
  | .local _ .vmem, ⟨8, _⟩ => ⟨S1920x12288, .fp8e4m3⟩
  | .local _ .smem, ⟨0, _⟩ => ⟨S3, .i32⟩
  | _, _ => ⟨S3x640x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v4 : Ref sig .tc := ⟨.hbm, 13, rfl⟩
abbrev main_v5 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x12288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x6x640 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x160x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "sixth" => some ((1 / 6 : ℝ) : EReal)
  | _ => none
-- ==== ReferenceIdeal.lean ====
abbrev S3x640x12288 : Shape := ⟨3, ![3, 640, 12288]⟩
abbrev S3x640 : Shape := ⟨2, ![3, 640]⟩
abbrev S12288x160 : Shape := ⟨2, ![12288, 160]⟩
abbrev S3x640x6 : Shape := ⟨3, ![3, 640, 6]⟩
abbrev S3 : Shape := ⟨1, ![3]⟩
abbrev S640 : Shape := ⟨1, ![640]⟩
abbrev S1x640 : Shape := ⟨2, ![1, 640]⟩
abbrev S3x1 : Shape := ⟨2, ![3, 1]⟩
abbrev S_ : Shape := ⟨0, ![]⟩
abbrev S3x640x6x1 : Shape := ⟨4, ![3, 640, 6, 1]⟩
abbrev S160 : Shape := ⟨1, ![160]⟩
abbrev S1x1x1x160 : Shape := ⟨4, ![1, 1, 1, 160]⟩
abbrev S3x640x6x160 : Shape := ⟨4, ![3, 640, 6, 160]⟩
abbrev S3x640x1x1 : Shape := ⟨4, ![3, 640, 1, 1]⟩
abbrev S1920x12288 : Shape := ⟨2, ![1920, 12288]⟩
abbrev S1920x160 : Shape := ⟨2, ![1920, 160]⟩
abbrev S3x640x160 : Shape := ⟨3, ![3, 640, 160]⟩
abbrev S3x640x1 : Shape := ⟨3, ![3, 640, 1]⟩
abbrev S1x1x160 : Shape := ⟨3, ![1, 1, 160]⟩

abbrev nBuf : Space → Nat
  | .hbm => 108
  | .vmem => 3
  | .smem => 0
  | _ => 0

abbrev bufTy : (tb : Table) → Fin (tcTables nBuf tb) → BufTy
  | .hbm, ⟨0, _⟩ => ⟨S3x640x12288, .fp8e4m3⟩
  | .hbm, ⟨1, _⟩ => ⟨S3x640, .f32⟩
  | .hbm, ⟨2, _⟩ => ⟨S12288x160, .bf16⟩
  | .hbm, ⟨3, _⟩ => ⟨S3x640x6, .i32⟩
  | .hbm, ⟨4, _⟩ => ⟨S3, .i32⟩
  | .hbm, ⟨5, _⟩ => ⟨S640, .i32⟩
  | .hbm, ⟨6, _⟩ => ⟨S1x640, .i32⟩
  | .hbm, ⟨7, _⟩ => ⟨S3x1, .i32⟩
  | .hbm, ⟨8, _⟩ => ⟨S3x640, .i32⟩
  | .hbm, ⟨9, _⟩ => ⟨S3x640, .i32⟩
  | .hbm, ⟨10, _⟩ => ⟨S3x640, .i1⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S3x640x6x1, .i32⟩
  | .hbm, ⟨19, _⟩ => ⟨S160, .i32⟩
  | .hbm, ⟨20, _⟩ => ⟨S1x1x1x160, .i32⟩
  | .hbm, ⟨21, _⟩ => ⟨S3x640x6x160, .i32⟩
  | .hbm, ⟨22, _⟩ => ⟨S3x640x6x160, .i32⟩
  | .hbm, ⟨23, _⟩ => ⟨S3x640x6x160, .i1⟩
  | .hbm, ⟨24, _⟩ => ⟨S3x640x1x1, .i1⟩
  | .hbm, ⟨25, _⟩ => ⟨S3x640x6x160, .i1⟩
  | .hbm, ⟨26, _⟩ => ⟨S3x640x6x160, .i1⟩
  | .hbm, ⟨27, _⟩ => ⟨S3x640x6x160, .i32⟩
  | .hbm, ⟨28, _⟩ => ⟨S_, .i32⟩
  | .hbm, ⟨29, _⟩ => ⟨S160, .i32⟩
  | .hbm, ⟨30, _⟩ => ⟨S160, .f32⟩
  | .hbm, ⟨31, _⟩ => ⟨S_, .f32⟩
  | .hbm, ⟨32, _⟩ => ⟨S_, .f32⟩
  | .hbm, ⟨33, _⟩ => ⟨S160, .f32⟩
  | .hbm, ⟨34, _⟩ => ⟨S160, .f32⟩
  | .hbm, ⟨35, _⟩ => ⟨S1920x12288, .fp8e4m3⟩
  | .hbm, ⟨36, _⟩ => ⟨S1920x160, .f32⟩
  | .hbm, ⟨37, _⟩ => ⟨S3x640x160, .f32⟩
  | .hbm, ⟨38, _⟩ => ⟨S3x640x1, .f32⟩
  | .hbm, ⟨39, _⟩ => ⟨S3x640x160, .f32⟩
  | .hbm, ⟨40, _⟩ => ⟨S3x640x160, .f32⟩
  | .hbm, ⟨41, _⟩ => ⟨S_, .f32⟩
  | .hbm, ⟨42, _⟩ => ⟨S3x640, .f32⟩
  | .hbm, ⟨43, _⟩ => ⟨S3x640x1, .f32⟩
  | .hbm, ⟨44, _⟩ => ⟨S3x640x160, .f32⟩
  | .hbm, ⟨45, _⟩ => ⟨S3x640x160, .f32⟩
  | .hbm, ⟨46, _⟩ => ⟨S3x640x160, .f32⟩
  | .hbm, ⟨47, _⟩ => ⟨S_, .f32⟩
  | .hbm, ⟨48, _⟩ => ⟨S3x640, .f32⟩
  | .hbm, ⟨49, _⟩ => ⟨S3x640, .f32⟩
  | .hbm, ⟨50, _⟩ => ⟨S3x640, .f32⟩
  | .hbm, ⟨51, _⟩ => ⟨S3x640x1, .f32⟩
  | .hbm, ⟨52, _⟩ => ⟨S3x640x160, .f32⟩
  | .hbm, ⟨53, _⟩ => ⟨S3x640x160, .f32⟩
  | .hbm, ⟨54, _⟩ => ⟨S3x640x160, .f32⟩
  | .hbm, ⟨55, _⟩ => ⟨S3x640x1, .i1⟩
  | .hbm, ⟨56, _⟩ => ⟨S_, .f32⟩
  | .hbm, ⟨57, _⟩ => ⟨S_, .f32⟩
  | .hbm, ⟨58, _⟩ => ⟨S3x640x160, .i1⟩
  | .hbm, ⟨59, _⟩ => ⟨S3x640x160, .f32⟩
  | .hbm, ⟨60, _⟩ => ⟨S3x640x160, .f32⟩
  | .hbm, ⟨61, _⟩ => ⟨S_, .f32⟩
  | .hbm, ⟨62, _⟩ => ⟨S160, .f32⟩
  | .hbm, ⟨63, _⟩ => ⟨S160, .f32⟩
  | .hbm, ⟨64, _⟩ => ⟨S160, .f32⟩
  | .hbm, ⟨65, _⟩ => ⟨S1x1x160, .f32⟩
  | .hbm, ⟨66, _⟩ => ⟨S3x640x160, .f32⟩
  | .hbm, ⟨67, _⟩ => ⟨S3x640x160, .f32⟩
  | .hbm, ⟨68, _⟩ => ⟨S_, .f32⟩
  | .hbm, ⟨69, _⟩ => ⟨S3x640, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S3x640, .f32⟩
  | .hbm, ⟨75, _⟩ => ⟨S3x640, .f32⟩
  | .hbm, ⟨76, _⟩ => ⟨S_, .f32⟩
  | .hbm, ⟨77, _⟩ => ⟨S_, .f32⟩
  | .hbm, ⟨78, _⟩ => ⟨S3x640, .f32⟩
  | .hbm, ⟨79, _⟩ => ⟨S3x640, .f32⟩
  | .hbm, ⟨80, _⟩ => ⟨S3x640, .f32⟩
  | .hbm, ⟨81, _⟩ => ⟨S3x640, .f32⟩
  | .hbm, ⟨82, _⟩ => ⟨S3x640, .f32⟩
  | .hbm, ⟨83, _⟩ => ⟨S_, .f32⟩
  | .hbm, ⟨84, _⟩ => ⟨S_, .f32⟩
  | .hbm, ⟨85, _⟩ => ⟨S3x640, .f32⟩
  | .hbm, ⟨86, _⟩ => ⟨S3x640, .f32⟩
  | .hbm, ⟨87, _⟩ => ⟨S3x640x1, .i1⟩
  | .hbm, ⟨88, _⟩ => ⟨S3x640x1, .f32⟩
  | .hbm, ⟨89, _⟩ => ⟨S1x1x160, .f32⟩
  | .hbm, ⟨90, _⟩ => ⟨S3x640x160, .f32⟩
  | .hbm, ⟨91, _⟩ => ⟨S3x640x160, .f32⟩
  | .hbm, ⟨92, _⟩ => ⟨S3x640x160, .f32⟩
  | .hbm, ⟨93, _⟩ => ⟨S3x640x160, .f32⟩
  | .hbm, ⟨94, _⟩ => ⟨S3x640x160, .f32⟩
  | .hbm, ⟨95, _⟩ => ⟨S_, .f32⟩
  | .hbm, ⟨96, _⟩ => ⟨S_, .f32⟩
  | .hbm, ⟨97, _⟩ => ⟨S3x640x1, .f32⟩
  | .hbm, ⟨98, _⟩ => ⟨S3x640x1, .f32⟩
  | .hbm, ⟨99, _⟩ => ⟨S3x640x1, .f32⟩
  | .hbm, ⟨100, _⟩ => ⟨S3x640x160, .f32⟩
  | .hbm, ⟨101, _⟩ => ⟨S3x640x160, .f32⟩
  | .hbm, ⟨102, _⟩ => ⟨S3x640x160, .f32⟩
  | .hbm, ⟨103, _⟩ => ⟨S_, .f32⟩
  | .hbm, ⟨104, _⟩ => ⟨S_, .f32⟩
  | .hbm, ⟨105, _⟩ => ⟨S3x640x160, .i1⟩
  | .hbm, ⟨106, _⟩ => ⟨S3x640x160, .f32⟩
  | .hbm, ⟨107, _⟩ => ⟨S3x640x160, .f32⟩
  | .local _ .vmem, ⟨0, _⟩ => ⟨S1920x12288, .fp8e4m3⟩
  | .local _ .vmem, ⟨1, _⟩ => ⟨S12288x160, .bf16⟩
  | .local _ .vmem, ⟨2, _⟩ => ⟨S1920x160, .f32⟩
  | _, _ => ⟨S3x640x12288, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_call1_v0 : Ref sig .tc := ⟨.hbm, 77, rfl⟩
abbrev main_call1_v1 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v76 : Ref sig .tc := ⟨.hbm, 107, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1920x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Model.lean ====
module

public import proofs.«01_k».proof.Proof.Gen.KernelIdeal.Frame.Runs

/-! The kernel's body as vector functions of what it reads: one group of 128 tokens at a time (`b` the sequence,
    `s` the group in it), the counts of the experts over all groups, and the running sum of probabilities. -/

@[expose] public section

noncomputable section

namespace Cert.KernelIdeal.Model

open Idealize.ShloMosaic Cert.KernelIdeal.Gen

variable {F : FTy → Type} [FloatOps F] [Named F]

/-- A group lies in a sequence of tokens. -/
theorem slices_group : ∀ s : Fin 5, S160x640.Slices ![0, 128 * s.val] S160x128 := by decide
/-- A row lies in the six rows of choices. -/
theorem slices_row : ∀ k : Fin 6, S6x128.Slices ![k.val, 0] S1x128 := by decide
/-- A length lies in the lengths. -/
theorem inb_len : ∀ b : Fin 3, ∀ a, (![b.val] : Fin 1 → Nat) a + S1.size a ≤ S3.size a := by decide
/-- A group lies in its sequence's row. -/
theorem inb_row : ∀ (b : Fin 3) (s : Fin 5), ∀ a, (![b.val, 128 * s.val] : Fin 2 → Nat) a + S1x128.size a ≤ S3x640.size a := by decide
/-- A group's choices lie in the choices. -/
theorem inb_ids : ∀ (b : Fin 3) (s : Fin 5), ∀ a, (![b.val, 0, 128 * s.val] : Fin 3 → Nat) a + S1x6x128.size a ≤ S3x6x640.size a := by decide
/-- A group's gradient lies in the gradient. -/
theorem inb_dl : ∀ (b : Fin 3) (s : Fin 5), ∀ a, (![b.val, 0, 128 * s.val] : Fin 3 → Nat) a + S1x160x128.size a ≤ S3x160x640.size a := by decide

/-- The length of sequence `b`. -/
def len (x0 : Vec F S3 .i32) (b : Fin 3) : BitVec 32 :=
  View.ld (Val := Elt F) (e' := .i32) x0 (Rect.unit ![b.val] S1.size (inb_len b)) (Shape.Idx.first (numel1_S1.symm ▸ Nat.one_pos : 0 < S1.numel))

/-- The number of the lane. -/
def lane : IVec S1x128 32 := iota .tc S1x128 32 [1] iota_S1x128_d1_w32
/-- The number of the expert. -/
def expert : IVec S160x128 32 := iota .tc S160x128 32 [0] iota_S160x128_d0_w32

/-- Which tokens of group `s` lie in a sequence of length `L`. -/
def valid (s : Fin 5) (L : BitVec 32) : IVec S1x128 1 :=
  cmpi .slt (addi lane (broadcast S1x128 (BitVec.ofNat 32 (128 * s.val)))) (broadcast S1x128 L)

/-- The chosen experts of a group, `-1` where the token is past the end. -/
def ids (s : Fin 5) (L : BitVec 32) (v : Vec F S1x6x128 .i32) : IVec S6x128 32 :=
  select (broadcastTo S6x128 (shapeCast S1x128 (valid s L) shapeCasts_S1x128_S1x128) broadcasts_S1x128_S6x128)
    (shapeCast S6x128 v shapeCasts_S1x6x128_S6x128) (broadcast S6x128 4294967295#32)

/-- Where the `k`-th choice is this expert. -/
def hit (v : IVec S6x128 32) (k : Fin 6) : IVec S160x128 32 :=
  extui 32 (cmpi .eq expert (broadcastTo S160x128 (extractStridedSlice S1x128 ![k.val, 0] v (slices_row k)) broadcasts_S1x128_S160x128)) natLt_1_32

/-- A group's six choices added to the counts. -/
def step (n : IVec S160x128 32) (v : IVec S6x128 32) : IVec S160x128 32 :=
  addi (addi (addi (addi (addi (addi n (hit v 0)) (hit v 1)) (hit v 2)) (hit v 3)) (hit v 4)) (hit v 5)

/-- The chosen experts of group `s` of sequence `b`. -/
def idsAt (x0 : Vec F S3 .i32) (x3 : Vec F S3x6x640 .i32) (b : Fin 3) (s : Fin 5) : IVec S6x128 32 :=
  ids (F := F) s (len x0 b) (View.ld (Val := Elt F) (e' := .i32) x3 (Rect.unit ![b.val, 0, 128 * s.val] S1x6x128.size (inb_ids b s)))

/-- A sequence's five groups added to the counts. -/
def stepSeq (x0 : Vec F S3 .i32) (x3 : Vec F S3x6x640 .i32) (n : IVec S160x128 32) (b : Fin 3) : IVec S160x128 32 :=
  step (step (step (step (step n (idsAt x0 x3 b 0)) (idsAt x0 x3 b 1)) (idsAt x0 x3 b 2)) (idsAt x0 x3 b 3)) (idsAt x0 x3 b 4)

/-- The counts per expert and lane. -/
def count (x0 : Vec F S3 .i32) (x3 : Vec F S3x6x640 .i32) : IVec S160x128 32 :=
  stepSeq x0 x3 (stepSeq x0 x3 (stepSeq x0 x3 (broadcast S160x128 0#32) 0) 1) 2

/-- One over the number of tokens, in every lane. -/
def inv (x0 : Vec F S3 .i32) : FVec F S1x128 .f32 := k0_pay1 (len x0 0) (len x0 1) (len x0 2)
/-- The load-balancing coefficient times that. -/
def cAux (x0 : Vec F S3 .i32) : FVec F S1x128 .f32 := k0_pay2 (len x0 0) (len x0 1) (len x0 2)
/-- The coefficient of the squared logarithm times that. -/
def cZ (x0 : Vec F S3 .i32) : FVec F S1x128 .f32 := k0_pay3 (len x0 0) (len x0 1) (len x0 2)

/-- The fraction of choices that fall on each expert, the same in every lane. -/
def frac (x0 : Vec F S3 .i32) (x3 : Vec F S3x6x640 .i32) : FVec F S160x128 .f32 :=
  mulf (broadcastTo S160x128 (shapeCast S160x1
      (multiReduction .add [1] S160 (sitofp .f32 (count x0 x3)) 0x00000000#32 reduces_S160x128_S160 (.inl rfl) rfl)
      shapeCasts_S160_S160x1) broadcasts_S160x1_S160x128)
    (broadcastTo S160x128 (mulf (inv x0) (broadcast S1x128 (Named.named κ "sixth" 0x3E2AAAAB#32))) broadcasts_S1x128_S160x128)

/-- The logits of a group, from the product of a sequence and the group's scales. -/
def z (d : FVec F S160x640 .f32) (s : Fin 5) (sc : Vec F S1x128 .f32) : FVec F S160x128 .f32 :=
  mulf (extractStridedSlice S160x128 ![0, 128 * s.val] d (slices_group s)) (broadcastTo S160x128 sc broadcasts_S1x128_S160x128)

/-- The maximum over the experts. -/
def top (z : FVec F S160x128 .f32) : FVec F S1x128 .f32 :=
  shapeCast S1x128 (multiReduction .maximumf [0] S128 z 0xFF800000#32 reduces_S160x128_S128 (.inl rfl) rfl) shapeCasts_S128_S1x128

/-- The exponentials of the logits less their maximum. -/
def ex (z : FVec F S160x128 .f32) : FVec F S160x128 .f32 := exp (subf z (broadcastTo S160x128 (top z) broadcasts_S1x128_S160x128))

/-- The sum over the experts. -/
def sumRows (v : FVec F S160x128 .f32) : FVec F S1x128 .f32 :=
  shapeCast S1x128 (multiReduction .add [0] S128 v 0x00000000#32 reduces_S160x128_S128 (.inl rfl) rfl) shapeCasts_S128_S1x128

/-- One over the sum of the exponentials. -/
def rcp (z : FVec F S160x128 .f32) : FVec F S1x128 .f32 := divf (broadcast S1x128 (Scalar.ofBits .f32 0x3F800000#32)) (sumRows (ex z))

/-- The logarithm of the sum of exponentials. -/
def lse (z : FVec F S160x128 .f32) : FVec F S1x128 .f32 := addf (log (sumRows (ex z))) (top z)

/-- The fractions averaged by the probabilities. -/
def g (z f : FVec F S160x128 .f32) : FVec F S1x128 .f32 := mulf (sumRows (mulf (ex z) f)) (rcp z)

/-- The probabilities, zero where the token is past the end. -/
def prob (v : IVec S1x128 1) (z : FVec F S160x128 .f32) : FVec F S160x128 .f32 :=
  select (broadcastTo S160x128 (shapeCast S1x128 v shapeCasts_S1x128_S1x128) broadcasts_S1x128_S160x128)
    (mulf (ex z) (broadcastTo S160x128 (rcp z) broadcasts_S1x128_S160x128))
    (broadcast S160x128 (Scalar.ofBits .f32 0x00000000#32))

/-- A row of zeros. -/
def zero1 : FVec F S1x128 .f32 := broadcast S1x128 (Scalar.ofBits .f32 0x00000000#32)

/-- The load-balancing terms of a group. -/
def aux (ca : FVec F S1x128 .f32) (v : IVec S1x128 1) (z f : FVec F S160x128 .f32) : FVec F S1x128 .f32 :=
  select v (mulf ca (g z f)) zero1

/-- The squared-logarithm terms of a group. -/
def zterm (cz : FVec F S1x128 .f32) (v : IVec S1x128 1) (z : FVec F S160x128 .f32) : FVec F S1x128 .f32 :=
  select v (mulf (mulf cz (lse z)) (lse z)) zero1

/-- The gradient of a group. -/
def grad (ca cz : FVec F S1x128 .f32) (v : IVec S1x128 1) (z f : FVec F S160x128 .f32) : FVec F S1x160x128 .f32 :=
  shapeCast S1x160x128
    (mulf (prob v z)
      (addf (mulf (broadcastTo S160x128 ca broadcasts_S1x128_S160x128) f)
        (broadcastTo S160x128
          (select v (subf (mulf (mulf (broadcast S1x128 (Scalar.ofBits .f32 0x40000000#32)) cz) (lse z)) (mulf ca (g z f))) zero1)
          broadcasts_S1x128_S160x128)))
    shapeCasts_S160x128_S1x160x128

/-! The groups, over the arrays. `X b` are the codes of sequence `b`. -/

variable (x0 : Vec F S3 .i32) (x1 : Vec F S3x640 .f32) (x2 : Vec F S160x12288 .bf16) (x3 : Vec F S3x6x640 .i32)
  (X : Fin 3 → Vec F S640x12288 .fp8e4m3)

/-- The logits of group `s` of sequence `b`. -/
def zAt (b : Fin 3) (s : Fin 5) : FVec F S160x128 .f32 :=
  z (k0_pay35 x2 (X b)) s (View.ld (Val := Elt F) (e' := .f32) x1 (Rect.unit ![b.val, 128 * s.val] S1x128.size (inb_row b s)))

/-- The valid tokens of group `s` of sequence `b`. -/
def validAt (b : Fin 3) (s : Fin 5) : IVec S1x128 1 := valid s (len x0 b)

/-- A sequence's five groups of probabilities added. -/
def sumSeq (n : FVec F S160x128 .f32) (b : Fin 3) : FVec F S160x128 .f32 :=
  addf (addf (addf (addf (addf n (prob (validAt x0 b 0) (zAt x1 x2 X b 0))) (prob (validAt x0 b 1) (zAt x1 x2 X b 1)))
    (prob (validAt x0 b 2) (zAt x1 x2 X b 2))) (prob (validAt x0 b 3) (zAt x1 x2 X b 3))) (prob (validAt x0 b 4) (zAt x1 x2 X b 4))

/-- The mean probabilities. -/
def mean : FVec F S1x160 .f32 :=
  mulf (shapeCast S1x160 (multiReduction .add [0] S160
      (transpose S128x160 [1, 0]
        (sumSeq x0 x1 x2 X (sumSeq x0 x1 x2 X (sumSeq x0 x1 x2 X (broadcast S160x128 (Scalar.ofBits .f32 0x00000000#32)) 0) 1) 2)
        transposes_S160x128_p1_0_S128x160) 0x00000000#32 reduces_S128x160_S160 (.inl rfl) rfl) shapeCasts_S160_S1x160)
    (broadcastTo S1x160 (extractStridedSlice S1x1 ![0, 0] (inv x0) slices_S1x128_o0_0_S1x1) broadcasts_S1x1_S1x160)

/-- Where a group lies in an array of tokens. -/
abbrev rowRect (b : Fin 3) (s : Fin 5) : Rect S3x640 := Rect.unit ![b.val, 128 * s.val] ![1, 128] (inb_row b s)
/-- Where a group lies in the gradient. -/
abbrev dlRect (b : Fin 3) (s : Fin 5) : Rect S3x160x640 := Rect.unit ![b.val, 0, 128 * s.val] ![1, 160, 128] (inb_dl b s)

/-- A group's store of load-balancing terms. -/
def auxPiece (b : Fin 3) (s : Fin 5) : View.Piece (Elt F) S3x640 .f32 :=
  ⟨rowRect b s, aux (cAux x0) (validAt x0 b s) (zAt x1 x2 X b s) (frac x0 x3)⟩
/-- A group's store of squared-logarithm terms. -/
def ztermPiece (b : Fin 3) (s : Fin 5) : View.Piece (Elt F) S3x640 .f32 :=
  ⟨rowRect b s, zterm (cZ x0) (validAt x0 b s) (zAt x1 x2 X b s)⟩
/-- A group's store of logarithms. -/
def lsePiece (b : Fin 3) (s : Fin 5) : View.Piece (Elt F) S3x640 .f32 :=
  ⟨rowRect b s, lse (zAt x1 x2 X b s)⟩
/-- A group's store of the gradient. -/
def gradPiece (b : Fin 3) (s : Fin 5) : View.Piece (Elt F) S3x160x640 .f32 :=
  ⟨dlRect b s, grad (cAux x0) (cZ x0) (validAt x0 b s) (zAt x1 x2 X b s) (frac x0 x3)⟩

/-- All groups, the last stored first. -/
def all {α : Type} (f : Fin 3 → Fin 5 → α) : List α :=
  [f 2 4, f 2 3, f 2 2, f 2 1, f 2 0, f 1 4, f 1 3, f 1 2, f 1 1, f 1 0, f 0 4, f 0 3, f 0 2, f 0 1, f 0 0]

end Cert.KernelIdeal.Model

end
-- ==== Proof.Row.lean ====
module

public import Idealize.ShloMosaic.PureOps.Ideal

/-! The softmax of one column of logits over the extended reals: the probabilities from the reciprocal of the sum are
    the exponentials of the logits less the logarithm of the sum, whatever the logits are. -/

@[expose] public section

noncomputable section

namespace Cert.Row

open Idealize.ShloMosaic

/-- A sum of reals, read as an extended real. -/
theorem coe_sum {ι : Type} (S : Finset ι) (x : ι → ℝ) : ((∑ i ∈ S, x i : ℝ) : EReal) = ∑ i ∈ S, (x i : EReal) := by
  classical
  induction S using Finset.induction_on with
  | empty => simp
  | insert a S h ih => rw [Finset.sum_insert h, Finset.sum_insert h, EReal.coe_add, ih]

variable (z : Fin 160 → EReal)

/-- The largest logit. -/
def top : EReal := Finset.univ.fold max ⊥ z
/-- The exponentials of the logits less the largest one. -/
def ex (j : Fin 160) : EReal := Ideal.exp (z j - top z)
/-- The sum of the exponentials. -/
def tot : EReal := ∑ j, ex z j
/-- The logarithm of the sum of exponentials. -/
def lse : EReal := Ideal.log (tot z) + top z
/-- The probability of expert `j`. -/
def prob (j : Fin 160) : EReal := Ideal.exp ((z j - top z) - Ideal.log (tot z))
/-- The mean of `f` under the probabilities. -/
def mean (f : Fin 160 → EReal) : EReal := ∑ j, prob z j * f j

/-- No logit is above the maximum. -/
theorem le_top (j : Fin 160) : z j ≤ top z := Finset.le_sup (f := z) (Finset.mem_univ j)

/-- Some logit is the maximum. -/
theorem exists_top : ∃ j, z j = top z := by
  obtain ⟨j, -, h⟩ := Finset.exists_mem_eq_sup (Finset.univ : Finset (Fin 160)) ⟨0, Finset.mem_univ _⟩ z
  exact ⟨j, h.symm⟩

/-- If the largest logit is infinite, every exponential is `0`. -/
theorem ex_eq_zero (h : top z = ⊥ ∨ top z = ⊤) (j : Fin 160) : ex z j = 0 := by
  rcases h with h | h
  · have hj : z j = ⊥ := le_bot_iff.mp (h ▸ le_top z j)
    simp [ex, h, hj]
  · simp [ex, h]

/-- A column is degenerate, all its exponentials and probabilities being `0`, or everything about it is real. -/
theorem cases_of :
    ((∀ j, ex z j = 0) ∧ ∀ j, prob z j = 0) ∨
    ∃ (m T : ℝ) (e : Fin 160 → ℝ), top z = m ∧ tot z = T ∧ 0 < T ∧ (∀ j, ex z j = e j) ∧
      ∀ j, prob z j = ((e j * (1 / T) : ℝ) : EReal) := by
  by_cases hd : top z = ⊥ ∨ top z = ⊤
  · refine .inl ⟨ex_eq_zero z hd, fun j => ?_⟩
    have ht : tot z = 0 := by simp [tot, ex_eq_zero z hd]
    have hs : z j - top z = ⊥ := by
      rcases hd with h | h
      · have hj : z j = ⊥ := le_bot_iff.mp (h ▸ le_top z j)
        simp [h, hj]
      · simp [h]
    have hl : Ideal.log 0 = ⊥ := by
      rw [← EReal.coe_zero, Ideal.log_coe]; simp
    simp [prob, hs, ht, hl]
  · right
    push Not at hd
    obtain ⟨m, hm⟩ : ∃ m : ℝ, top z = m := ⟨_, (EReal.coe_toReal hd.2 hd.1).symm⟩
    have hz : ∀ j, z j = ⊥ ∨ ∃ x : ℝ, z j = x := by
      intro j
      rcases eq_or_ne (z j) ⊥ with h | h
      · exact .inl h
      · refine .inr ⟨_, (EReal.coe_toReal (fun ht => hd.2 ?_) h).symm⟩
        exact top_le_iff.mp (ht ▸ le_top z j)
    have he : ∀ j, ∃ r : ℝ, 0 ≤ r ∧ ex z j = r ∧ (z j = ⊥ ∧ r = 0 ∨ ∃ x : ℝ, z j = x ∧ r = Real.exp (x - m)) := by
      intro j
      rcases hz j with h | ⟨x, h⟩
      · exact ⟨0, le_rfl, by simp [ex, h, hm], .inl ⟨h, rfl⟩⟩
      · refine ⟨Real.exp (x - m), (Real.exp_pos _).le, ?_, .inr ⟨x, h, rfl⟩⟩
        rw [ex, h, hm, ← EReal.coe_sub, Ideal.exp_coe]
    choose e he0 he1 he2 using he
    have hT : tot z = ((∑ j, e j : ℝ) : EReal) := by
      simp only [tot, he1, coe_sum]
    have hpos : 0 < ∑ j, e j := by
      obtain ⟨i, hi⟩ := exists_top z
      refine lt_of_lt_of_le ?_ (Finset.single_le_sum (fun j _ => he0 j) (Finset.mem_univ i))
      rcases he2 i with ⟨h, -⟩ | ⟨x, -, h⟩
      · exact absurd (hi.symm.trans h) hd.1
      · rw [h]; exact Real.exp_pos _
    refine ⟨m, ∑ j, e j, e, hm, hT, hpos, he1, fun j => ?_⟩
    have hl : Ideal.log (tot z) = ((Real.log (∑ j, e j) : ℝ) : EReal) := by
      rw [hT, Ideal.log_coe, if_neg (not_le.mpr hpos)]
    rcases he2 j with ⟨h, h0⟩ | ⟨x, h, h0⟩
    · rw [prob, hl, hm, h, h0]; simp
    · rw [prob, hl, hm, h, h0, ← EReal.coe_sub, ← EReal.coe_sub, Ideal.exp_coe, Real.exp_sub, Real.exp_log hpos, div_eq_mul_one_div]

/-- One over a positive real number. -/
theorem div_one_coe {T : ℝ} (h : 0 < T) : Ideal.div 1 (T : EReal) = ((1 / T : ℝ) : EReal) := by
  rw [Ideal.div_coe h.ne', one_mul]

/-- The exponential times the reciprocal of the sum is the probability. -/
theorem ex_mul_rcp (j : Fin 160) : ex z j * Ideal.div 1 (tot z) = prob z j := by
  rcases cases_of z with ⟨h, h'⟩ | ⟨m, T, e, -, hT, hpos, he, hp⟩
  · rw [h, h', zero_mul]
  · rw [he, hp, hT, div_one_coe hpos, ← EReal.coe_mul]

/-- The sum of `f` over the exponentials, times the reciprocal, is the mean of `f`. -/
theorem sum_mul_rcp (f : Fin 160 → EReal) (φ : Fin 160 → ℝ) (hf : ∀ j, f j = φ j) :
    (∑ j, ex z j * f j) * Ideal.div 1 (tot z) = mean z f := by
  rcases cases_of z with ⟨h, h'⟩ | ⟨m, T, e, -, hT, hpos, he, hp⟩
  · simp [mean, h, h']
  · simp only [mean, he, hp, hT, div_one_coe hpos, hf, ← EReal.coe_mul, ← coe_sum]
    congr 1
    rw [Finset.sum_mul]
    exact Finset.sum_congr rfl fun j _ => by ring

/-- The gradient's two forms: the constant part of a token apart, or inside. -/
theorem grad_eq (f : Fin 160 → EReal) (φ : Fin 160 → ℝ) (hf : ∀ j, f j = φ j) (a c : ℝ) (j : Fin 160) :
    prob z j * ((a : EReal) * f j + ((c : EReal) * lse z - (a : EReal) * mean z f))
      = prob z j * ((a : EReal) * (f j - mean z f) + (c : EReal) * lse z) := by
  rcases cases_of z with ⟨h, h'⟩ | ⟨m, T, e, hm, hT, hpos, he, hp⟩
  · rw [h', zero_mul, zero_mul]
  · have hl : lse z = ((Real.log T + m : ℝ) : EReal) := by
      rw [lse, hT, hm, Ideal.log_coe, if_neg (not_le.mpr hpos), EReal.coe_add]
    have hg : mean z f = ((∑ j, e j * (1 / T) * φ j : ℝ) : EReal) := by
      simp only [mean, hp, hf, ← EReal.coe_mul, ← coe_sum]
    rw [hl, hg, hf, hp]
    simp only [← EReal.coe_mul, ← EReal.coe_add, ← EReal.coe_sub]
    congr 1
    ring

end Cert.Row

end
-- ==== Proof.Consts.lean ====
module

public import Idealize.ShloMosaic.PureOps.Ideal

/-! The float constants of the two programs, read as extended reals. -/

@[expose] public section

noncomputable section

namespace Cert.Consts

open Idealize.ShloMosaic

/-- The pattern the maxima start from is minus infinity. -/
theorem neg_inf : Ideal.ofBits .f32 0xFF800000#32 = ⊥ := by
  simp [Ideal.ofBits, Ideal.ieee, -EReal.coe_mul]

/-- The load-balancing coefficient, `160 * 0.01` in single precision. -/
def auxR : ℝ := 13421773 / 8388608
/-- The coefficient of the squared logarithm, `0.001` in single precision. -/
def zR : ℝ := 8589935 / 8589934592

/-- The load-balancing coefficient is a real number. -/
theorem aux_lit : Ideal.ofBits .f32 0x3FCCCCCD#32 = (auxR : EReal) := by
  simp [Ideal.ofBits, Ideal.ieee, -EReal.coe_mul, auxR]
  norm_num
/-- The coefficient of the squared logarithm is a real number. -/
theorem z_lit : Ideal.ofBits .f32 0x3A83126F#32 = (zR : EReal) := by
  simp [Ideal.ofBits, Ideal.ieee, -EReal.coe_mul, zR]
  norm_num
/-- The pattern of two. -/
theorem two_lit : Ideal.ofBits .f32 0x40000000#32 = ((2 : ℝ) : EReal) := by
  simp [Ideal.ofBits, Ideal.ieee, -EReal.coe_mul]
  norm_num
/-- The pattern of six. -/
theorem six_lit : Ideal.ofBits .f32 0x40C00000#32 = ((6 : ℝ) : EReal) := by
  simp [Ideal.ofBits, Ideal.ieee, -EReal.coe_mul]
  norm_num

end Cert.Consts

end
-- ==== Proof.Spec.lean ====
module

public import proofs.«01_k».proof.Proof.Row
public import proofs.«01_k».proof.Proof.Consts

/-! What both programs compute, over plain functions of the arguments: sequence `b`, token `q`, expert `e`, choice `k`. -/

@[expose] public section

noncomputable section

namespace Cert.Spec

open Idealize.ShloMosaic Cert.Consts

variable (L : Fin 3 → BitVec 32) (I : Fin 3 → Fin 640 → Fin 6 → BitVec 32)
  (Z : Fin 3 → Fin 640 → Fin 160 → EReal)

/-- The logits: the product of a token with the router, times the token's scale. -/
def logits (X : Fin 3 → Fin 640 → Fin 12288 → EReal) (W : Fin 12288 → Fin 160 → EReal) (sc : Fin 3 → Fin 640 → EReal)
    (b : Fin 3) (q : Fin 640) (e : Fin 160) : EReal := (∑ k, X b q k * W k e) * sc b q

/-- Whether token `q` lies in sequence `b`. -/
def ok (b : Fin 3) (q : Fin 640) : BitVec 1 := IntOp.cmpi .slt (BitVec.ofNat 32 q.val) (L b)

/-- One where a token of a sequence chose expert `e`. -/
def hit (b : Fin 3) (q : Fin 640) (k : Fin 6) (e : Fin 160) : Nat :=
  if ok L b q = 1#1 ∧ I b q k = BitVec.ofNat 32 e.val then 1 else 0

/-- How often expert `e` was chosen. -/
def hits (e : Fin 160) : Nat := ∑ b, ∑ q, ∑ k, hit L I b q k e

/-- One over the number of tokens. -/
def inv : ℝ := 1 / max ((L 0 + L 1 + L 2).toInt : ℝ) 1

/-- The fraction of choices that fell on expert `e`. -/
def frac (e : Fin 160) : ℝ := (hits L I e : ℝ) * (inv L * (1 / 6))

/-- The same as an extended real. -/
def fracE (e : Fin 160) : EReal := (frac L I e : EReal)

/-- The load-balancing term of a token, zero past the end. -/
def aux (b : Fin 3) (q : Fin 640) : EReal :=
  Scalar.select (ok L b q) (((auxR * inv L : ℝ) : EReal) * Row.mean (Z b q) (fracE L I)) 0

/-- The squared-logarithm term of a token, zero past the end. -/
def zterm (b : Fin 3) (q : Fin 640) : EReal :=
  Scalar.select (ok L b q) (((zR * inv L : ℝ) : EReal) * Row.lse (Z b q) * Row.lse (Z b q)) 0

/-- The mean probability of expert `e`. -/
def meanP (e : Fin 160) : EReal :=
  (∑ b, ∑ q, Scalar.select (ok L b q) (Row.prob (Z b q) e) 0) * ((inv L : ℝ) : EReal)

/-- The logarithm of the sum of exponentials of a token. -/
def lse (b : Fin 3) (q : Fin 640) : EReal := Row.lse (Z b q)

/-- The gradient of the losses in a logit, zero past the end. -/
def grad (b : Fin 3) (q : Fin 640) (e : Fin 160) : EReal :=
  Scalar.select (ok L b q)
    (Row.prob (Z b q) e * (((auxR * inv L : ℝ) : EReal) * (fracE L I e - Row.mean (Z b q) (fracE L I))
      + ((2 * (zR * inv L) : ℝ) : EReal) * Row.lse (Z b q))) 0

end Cert.Spec

end
-- ==== Proof.Count.lean ====
module

public import proofs.«01_k».proof.Proof.Spec
public import Mathlib.Data.BitVec
public import Idealize.ShloMosaic.PureOps.Reduce
public import Idealize.ShloMosaic.Lib.IndicatorCount

/-! The counts as words: a sum of few ones does not overflow, so its word, read as a signed number, is the count. -/

@[expose] public section

noncomputable section

namespace Cert.Count

open Idealize.ShloMosaic

/-- A count up to 11520 is read back from its word. -/
theorem toInt_natCast (n : Nat) (h : n ≤ 11520) : ((n : BitVec 32)).toInt = (n : Int) := by
  rw [BitVec.natCast_eq_ofNat, BitVec.toInt_eq_toNat_of_lt (by rw [BitVec.toNat_ofNat]; omega), BitVec.toNat_ofNat]
  omega

/-- A choice counts at most once. -/
theorem hit_le (L : Fin 3 → BitVec 32) (I : Fin 3 → Fin 640 → Fin 6 → BitVec 32) (b : Fin 3) (q : Fin 640) (k : Fin 6) (e : Fin 160) :
    Spec.hit L I b q k e ≤ 1 := by
  unfold Spec.hit; split <;> simp

/-- No expert is chosen more often than there are choices. -/
theorem hits_le (L : Fin 3 → BitVec 32) (I : Fin 3 → Fin 640 → Fin 6 → BitVec 32) (e : Fin 160) : Spec.hits L I e ≤ 11520 := by
  calc Spec.hits L I e ≤ ∑ _b : Fin 3, ∑ _q : Fin 640, ∑ _k : Fin 6, 1 :=
        Finset.sum_le_sum fun b _ => Finset.sum_le_sum fun q _ => Finset.sum_le_sum fun k _ => hit_le L I b q k e
    _ = 11520 := by simp

/-- A comparison's bit widened to a word is one or zero. -/
theorem setWidth_bit (c : BitVec 1) : c.setWidth 32 = (((if c = 1#1 then 1 else 0 : Nat)) : BitVec 32) := by
  rcases (by decide : ∀ c : BitVec 1, c = 0#1 ∨ c = 1#1) c with rfl | rfl <;> rfl

/-- The equality comparison is one exactly where the words are equal. -/
theorem cmpi_eq_iff (x y : BitVec 32) : IntOp.cmpi .eq x y = 1#1 ↔ x = y := by
  by_cases h : x = y
  · simp [IntOp.cmpi, h]
  · simp only [IntOp.cmpi, h, iff_false]; rw [beq_false_of_ne h]; decide

/-- A conjunction of bits is one exactly where both are. -/
theorem andi_eq_one (x y : BitVec 1) : IntOp.andi x y = 1#1 ↔ x = 1#1 ∧ y = 1#1 := by
  revert x y; decide

/-- A fold by word addition from zero is the sum. -/
theorem fold_addi {ι : Type} (S : Finset ι) (x : ι → BitVec 32) : S.fold IntOp.addi 0#32 x = ∑ i ∈ S, x i := by
  classical
  induction S using Finset.induction_on with
  | empty => rfl
  | insert a S h ih => rw [Finset.fold_insert h, Finset.sum_insert h, ih]; rfl

/-- One over the number of tokens, as both programs compute it. -/
theorem inv_eq (n : BitVec 32) :
    Ideal.div 1 (max (FloatOps.sitofp .f32 n : Ideal .f32) 1) = ((1 / max (n.toInt : ℝ) 1 : ℝ) : EReal) := by
  have h : (max (FloatOps.sitofp .f32 n : Ideal .f32) 1 : EReal) = ((max (n.toInt : ℝ) 1 : ℝ) : EReal) :=
    (EReal.coe_strictMono.monotone.map_max (a := (n.toInt : ℝ)) (b := 1)).symm
  exact (congrArg (Ideal.div 1) h).trans (Row.div_one_coe (lt_of_lt_of_le one_pos (le_max_right _ _)))

end Cert.Count

end
-- ==== Proof.Cols.lean ====
module

public import proofs.«01_k».proof.Proof.Model
public import proofs.«01_k».proof.Proof.Spec
public import proofs.«01_k».proof.Proof.Count
public import Idealize.ShloMosaic.Lib.Pointwise

/-! The model's vectors at an index, on the extended reals: `j` a token's lane in its group, `i` an expert. -/

@[expose] public section

set_option maxRecDepth 16384

noncomputable section

namespace Cert.KernelIdeal.Model

open Idealize.ShloMosaic Cert.KernelIdeal.Gen Cert.Consts

/-- The logits of one lane. -/
def lcol (z : FVec Ideal S160x128 .f32) (j : Fin 128) : Fin 160 → EReal := fun i => z (ix2 i j)

variable (z f : FVec Ideal S160x128 .f32) (ca cz : FVec Ideal S1x128 .f32) (v : IVec S1x128 1)

/-- The maximum over the experts. -/
theorem top_at (o : Fin 1) (j : Fin 128) : top z (ix2 o j) = Row.top (lcol z j) := by
  pointwise [top]
  rw [neg_inf]
  rfl

/-- The exponential of a logit less the maximum. -/
theorem ex_at (i : Fin 160) (j : Fin 128) : ex z (ix2 i j) = Row.ex (lcol z j) i := by
  pointwise [ex]
  rw [top_at]
  rfl

/-- The sum over the experts. -/
theorem sumRows_at (y : FVec Ideal S160x128 .f32) (o : Fin 1) (j : Fin 128) : sumRows y (ix2 o j) = ∑ i, y (ix2 i j) := by
  pointwise [sumRows]

/-- The sum of the exponentials. -/
theorem tot_at (o : Fin 1) (j : Fin 128) : sumRows (ex z) (ix2 o j) = Row.tot (lcol z j) := by
  rw [sumRows_at]
  exact Finset.sum_congr rfl fun i _ => ex_at z i j

/-- The reciprocal of that sum. -/
theorem rcp_at (o : Fin 1) (j : Fin 128) : rcp z (ix2 o j) = Ideal.div 1 (Row.tot (lcol z j)) := by
  pointwise [rcp]
  rw [tot_at]

/-- The logarithm of the sum of exponentials. -/
theorem lse_at (o : Fin 1) (j : Fin 128) : lse z (ix2 o j) = Row.lse (lcol z j) := by
  pointwise [lse]
  rw [tot_at, top_at]
  rfl

/-- The fractions averaged by the probabilities, when the fractions are real numbers. -/
theorem g_at (φ : Fin 160 → ℝ) (j : Fin 128) (hf : ∀ i, lcol f j i = φ i) (o : Fin 1) :
    g z f (ix2 o j) = Row.mean (lcol z j) (lcol f j) := by
  have h : sumRows (mulf (ex z) f) (ix2 o j) = ∑ i, Row.ex (lcol z j) i * lcol f j i := by
    rw [sumRows_at]
    exact Finset.sum_congr rfl fun i _ => congrArg (fun x : EReal => x * _) (ex_at z i j)
  rw [← Row.sum_mul_rcp _ _ φ hf, ← h, ← rcp_at z o j]
  rfl

/-- The probability, zero past the end of the sequence. -/
theorem prob_at (i : Fin 160) (j : Fin 128) :
    prob v z (ix2 i j) = Scalar.select (v (ix2 0 j)) (Row.prob (lcol z j) i) 0 := by
  pointwise [prob]
  rw [ex_at, rcp_at, Row.ex_mul_rcp]

/-- The load-balancing term, zero past the end. -/
theorem aux_at (φ : Fin 160 → ℝ) (j : Fin 128) (hf : ∀ i, lcol f j i = φ i) (o : Fin 1) :
    aux ca v z f (ix2 o j) = Scalar.select (v (ix2 o j)) (ca (ix2 o j) * Row.mean (lcol z j) (lcol f j)) 0 := by
  pointwise [aux, zero1]
  rw [g_at z f φ j hf]

/-- The squared-logarithm term, zero past the end. -/
theorem zterm_at (o : Fin 1) (j : Fin 128) :
    zterm cz v z (ix2 o j) = Scalar.select (v (ix2 o j)) (cz (ix2 o j) * Row.lse (lcol z j) * Row.lse (lcol z j)) 0 := by
  pointwise [zterm, zero1]
  rw [lse_at]

/-- The gradient, in the reference's form, when the coefficients and the fractions are real numbers. -/
theorem grad_at (φ : Fin 160 → ℝ) (a c : ℝ) (j : Fin 128) (hf : ∀ i, lcol f j i = φ i)
    (ha : ca (ix2 0 j) = (a : EReal)) (hc : cz (ix2 0 j) = (c : EReal)) (o : Fin 1) (i : Fin 160) :
    grad ca cz v z f (ix3 o i j) = Scalar.select (v (ix2 0 j))
      (Row.prob (lcol z j) i * ((a : EReal) * (lcol f j i - Row.mean (lcol z j) (lcol f j)) + ((2 * c : ℝ) : EReal) * Row.lse (lcol z j))) 0 := by
  pointwise [grad, zero1]
  rw [prob_at, g_at z f φ j hf, lse_at, ha, hc, two_lit, ← EReal.coe_mul]
  unfold Scalar.select
  split
  · exact Row.grad_eq _ _ φ hf a (2 * c) i
  · exact zero_mul _

end Cert.KernelIdeal.Model

end
-- ==== Proof.Groups.lean ====
module

public import proofs.«01_k».proof.Proof.Cols
public import proofs.«01_k».proof.Proof.Count

/-! The kernel's groups over the arrays, as functions of the arguments. -/

@[expose] public section

set_option maxRecDepth 16384

noncomputable section

namespace Cert.KernelIdeal.Model

open Idealize.ShloMosaic Cert.KernelIdeal.Gen Cert.Consts

/-- The token in lane `j` of group `s`. -/
def tok (s : Fin 5) (j : Fin 128) : Fin 640 := ⟨128 * s.val + j.val, by omega⟩

/-- A sum over a sequence's tokens, group by group. -/
theorem sum_tok {M : Type} [AddCommMonoid M] (f : Fin 640 → M) : ∑ q, f q = ∑ s : Fin 5, ∑ j : Fin 128, f (tok s j) := by
  rw [← Equiv.sum_comp (finProdFinEquiv (m := 5) (n := 128)) f, Fintype.sum_prod_type]
  refine Finset.sum_congr rfl fun s _ => Finset.sum_congr rfl fun j _ => congrArg f (Fin.ext ?_)
  exact Nat.add_comm _ _

variable (x0 : Vec Ideal S3 .i32) (x1 : Vec Ideal S3x640 .f32) (x2 : Vec Ideal S160x12288 .bf16) (x3 : Vec Ideal S3x6x640 .i32)
  (X : Fin 3 → Vec Ideal S640x12288 .fp8e4m3)

/-- The sequence lengths. -/
def lens (b : Fin 3) : BitVec 32 := x0 (ix1 b)
/-- The experts the tokens chose. -/
def choices (b : Fin 3) (q : Fin 640) (k : Fin 6) : BitVec 32 := x3 (ix3 b k q)
/-- The tokens' logits. -/
def logits : Fin 3 → Fin 640 → Fin 160 → EReal :=
  Spec.logits (fun b q k => X b (ix2 q k)) (fun k e => x2 (ix2 e k)) (fun b q => x1 (ix2 b q))

/-- A lane's number plus its group's start is the token's number, as words. -/
theorem word_tok (s : Fin 5) (j : Fin 128) :
    IntOp.addi (BitVec.ofNat 32 j.val) (BitVec.ofNat 32 (128 * s.val)) = BitVec.ofNat 32 (tok s j).val := by
  show BitVec.ofNat 32 j.val + BitVec.ofNat 32 (128 * s.val) = BitVec.ofNat 32 (128 * s.val + j.val)
  rw [Nat.add_comm, BitVec.ofNat_add]

/-- Which tokens are valid. -/
theorem valid_at (b : Fin 3) (s : Fin 5) (o : Fin 1) (j : Fin 128) :
    validAt x0 b s (ix2 o j) = Spec.ok (lens x0) b (tok s j) := by
  pointwise [validAt, valid, lane, len]
  rw [word_tok]
  rfl

/-- The logits of a lane are its token's. -/
theorem z_at (b : Fin 3) (s : Fin 5) (j : Fin 128) :
    lcol (zAt x1 x2 X b s) j = logits x1 x2 X b (tok s j) := by
  funext i
  unfold lcol
  pointwise [zAt, z, k0_pay35]
  exact congrArg (fun x : EReal => x * _) (Finset.sum_congr rfl fun k _ => mul_comm _ _)

/-- One over the number of tokens. -/
theorem inv_at (o : Fin 1) (j : Fin 128) : inv x0 (ix2 o j) = (Spec.inv (lens x0) : EReal) := by
  pointwise [inv, k0_pay1, len]
  rw [Count.inv_eq]
  rfl

/-- The load-balancing coefficient over the number of tokens. -/
theorem cAux_at (o : Fin 1) (j : Fin 128) : cAux x0 (ix2 o j) = ((auxR * Spec.inv (lens x0) : ℝ) : EReal) := by
  pointwise [cAux, k0_pay2, k0_pay1, len]
  rw [Count.inv_eq, aux_lit, ← EReal.coe_mul]
  rfl

/-- The coefficient of the squared logarithm over the number of tokens. -/
theorem cZ_at (o : Fin 1) (j : Fin 128) : cZ x0 (ix2 o j) = ((zR * Spec.inv (lens x0) : ℝ) : EReal) := by
  pointwise [cZ, k0_pay3, k0_pay1, len]
  rw [Count.inv_eq, z_lit, ← EReal.coe_mul]
  rfl

/-- A choice counts for an expert where the token is valid and chose it. -/
theorem hit_at (b : Fin 3) (s : Fin 5) (k : Fin 6) (i : Fin 160) (j : Fin 128) :
    hit (idsAt x0 x3 b s) k (ix2 i j) = ((Spec.hit (lens x0) (choices x3) b (tok s j) k i : Nat) : BitVec 32) := by
  have h : idsAt x0 x3 b s (ix2 k j)
      = Scalar.select (Spec.ok (lens x0) b (tok s j)) (choices x3 b (tok s j) k) 4294967295#32 := by
    pointwise [idsAt, ids, valid, lane, len]
    rw [word_tok]
    rfl
  pointwise [hit, expert]
  rw [h, Count.setWidth_bit]
  simp only [Count.cmpi_eq_iff, Spec.hit]
  unfold Scalar.select
  have hne : BitVec.ofNat 32 i.val ≠ 4294967295#32 := by
    intro e
    have := congrArg BitVec.toNat e
    simp only [BitVec.toNat_ofNat] at this
    omega
  by_cases hv : Spec.ok (lens x0) b (tok s j) = 1#1
  · rw [if_pos (show _ = (1 : BitVec 1) from hv)]
    simp only [hv, true_and, eq_comm]
  · rw [if_neg (show ¬ _ = (1 : BitVec 1) from hv)]
    simp only [hv, false_and, hne]

/-- A step adds a group's six choices. -/
theorem step_at (n : IVec S160x128 32) (v : IVec S6x128 32) (i : Fin 160) (j : Fin 128) :
    step n v (ix2 i j) = n (ix2 i j) + ∑ k, hit v k (ix2 i j) := by
  rw [Fin.sum_univ_six]
  simp only [← add_assoc]
  rfl

/-- The choices of one expert in a group's lane. -/
def laneHits (b : Fin 3) (s : Fin 5) (i : Fin 160) (j : Fin 128) : Nat :=
  ∑ k, Spec.hit (lens x0) (choices x3) b (tok s j) k i

/-- A step adds the choices of each lane. -/
theorem stepAt_at (n : IVec S160x128 32) (b : Fin 3) (s : Fin 5) (i : Fin 160) (j : Fin 128) :
    step n (idsAt x0 x3 b s) (ix2 i j) = n (ix2 i j) + ((laneHits x0 x3 b s i j : Nat) : BitVec 32) := by
  rw [step_at, laneHits, Nat.cast_sum]
  simp only [hit_at]

/-- A sequence's five steps add its choices. -/
theorem stepSeq_at (n : IVec S160x128 32) (b : Fin 3) (i : Fin 160) (j : Fin 128) :
    stepSeq x0 x3 n b (ix2 i j) = n (ix2 i j) + ((∑ s, laneHits x0 x3 b s i j : Nat) : BitVec 32) := by
  unfold stepSeq
  simp only [stepAt_at, Fin.sum_univ_five, Nat.cast_add, add_assoc]

/-- The counts per expert and lane. -/
theorem count_at (i : Fin 160) (j : Fin 128) :
    count x0 x3 (ix2 i j) = ((∑ b, ∑ s, laneHits x0 x3 b s i j : Nat) : BitVec 32) := by
  unfold count
  simp only [stepSeq_at, Fin.sum_univ_three, Nat.cast_add, add_assoc]
  exact zero_add _

/-- A lane of a group has at most six choices. -/
theorem laneHits_le (b : Fin 3) (s : Fin 5) (i : Fin 160) (j : Fin 128) : laneHits x0 x3 b s i j ≤ 6 :=
  (Finset.sum_le_sum fun k _ => Count.hit_le (lens x0) (choices x3) b (tok s j) k i).trans (by simp)

/-- The counts stay small. -/
theorem count_le (i : Fin 160) (j : Fin 128) : (∑ b, ∑ s, laneHits x0 x3 b s i j) ≤ 11520 :=
  calc (∑ b, ∑ s, laneHits x0 x3 b s i j) ≤ ∑ _b : Fin 3, ∑ _s : Fin 5, 6 :=
        Finset.sum_le_sum fun b _ => Finset.sum_le_sum fun s _ => laneHits_le x0 x3 b s i j
    _ ≤ 11520 := by simp

/-- The counts of all lanes are the number of selections. -/
theorem sum_count (i : Fin 160) :
    ∑ j, ∑ b, ∑ s, laneHits x0 x3 b s i j = Spec.hits (lens x0) (choices x3) i := by
  unfold Spec.hits
  rw [Finset.sum_comm]
  refine Finset.sum_congr rfl fun b _ => ?_
  rw [Finset.sum_comm, sum_tok]
  rfl

/-- The fractions are the same in every lane. -/
theorem frac_at (j : Fin 128) : lcol (frac x0 x3) j = Spec.fracE (lens x0) (choices x3) := by
  funext i
  unfold lcol
  pointwise [frac]
  have h : ∀ x : Fin 128, (FloatOps.sitofp .f32 (count x0 x3 (ix2 i x)) : Ideal .f32)
      = (((∑ b, ∑ s, laneHits x0 x3 b s i x : Nat) : ℝ) : EReal) := by
    intro x
    rw [count_at]
    show ((((∑ b, ∑ s, laneHits x0 x3 b s i x : Nat) : BitVec 32).toInt : ℝ) : EReal) = _
    rw [Count.toInt_natCast _ (count_le x0 x3 i x)]
    norm_cast
  have hs : (∑ x : Fin 128, (FloatOps.sitofp .f32 (count x0 x3 (ix2 i x)) : Ideal .f32))
      = ((Spec.hits (lens x0) (choices x3) i : ℝ) : EReal) := by
    rw [← sum_count, Nat.cast_sum, Row.coe_sum]
    exact Finset.sum_congr rfl fun x _ => h x
  have hn : Named.named (F := Ideal) (φ := .f32) κ "sixth" 0x3E2AAAAB#32 = ((1 / 6 : ℝ) : EReal) := IdealRules.named_const.ideal_named_scalar _ _ _ _ rfl
  refine (congrArg₂ (fun x y : EReal => x * y) hs (congrArg₂ (fun x y : EReal => x * y) (inv_at x0 0 j) hn)).trans ?_
  rw [← EReal.coe_mul, ← EReal.coe_mul]
  rfl

/-- A sequence's five steps add its tokens' probabilities. -/
theorem sumSeq_at (n : FVec Ideal S160x128 .f32) (b : Fin 3) (i : Fin 160) (j : Fin 128) :
    sumSeq x0 x1 x2 X n b (ix2 i j) = n (ix2 i j)
      + ∑ s, Scalar.select (Spec.ok (lens x0) b (tok s j)) (Row.prob (logits x1 x2 X b (tok s j)) i) 0 := by
  have h : ∀ s, prob (validAt x0 b s) (zAt x1 x2 X b s) (ix2 i j)
      = Scalar.select (Spec.ok (lens x0) b (tok s j)) (Row.prob (logits x1 x2 X b (tok s j)) i) 0 := by
    intro s
    rw [prob_at, valid_at, z_at]
  simp only [← h, Fin.sum_univ_five, ← add_assoc]
  rfl

/-- The mean probabilities. -/
theorem mean_at (o : Fin 1) (i : Fin 160) :
    mean x0 x1 x2 X (ix2 o i) = Spec.meanP (lens x0) (logits x1 x2 X) i := by
  have hs : (∑ j : Fin 128, sumSeq x0 x1 x2 X (sumSeq x0 x1 x2 X (sumSeq x0 x1 x2 X
        (broadcast S160x128 (0 : Ideal .f32)) 0) 1) 2 (ix2 i j) : EReal)
      = ∑ b, ∑ q, Scalar.select (Spec.ok (lens x0) b q) (Row.prob (logits x1 x2 X b q) i) 0 := by
    simp only [sumSeq_at, sum_tok, Fin.sum_univ_three]
    rw [Finset.sum_comm (s := (Finset.univ : Finset (Fin 5))), Finset.sum_comm (s := (Finset.univ : Finset (Fin 5))),
      Finset.sum_comm (s := (Finset.univ : Finset (Fin 5))), ← Finset.sum_add_distrib, ← Finset.sum_add_distrib]
    refine Finset.sum_congr rfl fun j _ => ?_
    refine congrArg (fun x : EReal => x + _ + _) ?_
    exact zero_add _
  unfold mean
  pointwise
  rw [hs, inv_at]
  rfl

end Cert.KernelIdeal.Model

end
-- ==== Proof.Bridge.lean ====
module

public import proofs.«01_k».proof.Proof.Model
public import proofs.«01_k».proof.Proof.Gen.KernelIdeal.Frame.RunA
public import Idealize.ShloMosaic.Lib.Pipeline.Value
public import Idealize.ShloMosaic.Lib.Pipeline.ReadBack

/-! What the body stores, as the model's groups. -/

@[expose] public section

set_option maxRecDepth 16384

noncomputable section

namespace Cert.KernelIdeal.Model

open Idealize.ShloMosaic Idealize.ShloMosaic.TcCoe Idealize.ShloMosaic.Tactic Cert.KernelIdeal.Gen

variable {F : FTy → Type} [FloatOps F] [Named F]

/-- The rows of sequence `b` lie in the codes. -/
theorem inb_x : ∀ b : Fin 3, ∀ a, (![640 * b.val, 0] : Fin 2 → Nat) a + S640x12288.size a ≤ S1920x12288.size a := by decide

/-- The codes of sequence `b`. -/
def rows (c : Dev nD) (fh0 : HbBuf0 (F := F) c hbM0_0) (b : Fin 3) : Vec F S640x12288 .fp8e4m3 :=
  View.read (Elt F) ((Memref.whole main_v0).slice (Rect.unit ![640 * b.val, 0] S640x12288.size (inb_x b)) (fun _ => rfl)).view fh0

section
variable (c : Dev nD) (arg0 : Memref sig .tc .smem S3 .i32) (harg0 : arg0.IsWhole) (arg2 : Memref sig .tc .vmem S3x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S3x640 .f32) (harg5 : arg5.IsWhole) (arg6 : Memref sig .tc .vmem S3x640 .f32) (harg6 : arg6.IsWhole) (arg7 : Memref sig .tc .vmem S1x160 .f32) (harg7 : arg7.IsWhole) (arg8 : Memref sig .tc .vmem S3x640 .f32) (harg8 : arg8.IsWhole) (arg9 : Memref sig .tc .vmem S3x160x640 .f32) (harg9 : arg9.IsWhole) (arg10 : Memref sig .tc .vmem S1920x12288 .fp8e4m3) (harg10 : arg10.IsWhole)
    (x0 : Vec F S3 .i32) (x1 : Vec F S3x640 .f32) (x2 : Vec F S160x12288 .bf16) (x3 : Vec F S3x6x640 .i32) (fh0 : HbBuf0 (F := F) c hbM0_0)

/-- The three copies of the codes into the scratch, the last first. -/
abbrev copies : List (View.Piece (Elt F) S1920x12288 .fp8e4m3) :=
  [⟨Rect.unit ![1280, 0] S640x12288.size inb_S1920x12288_S640x12288_1280_0,
      ReadAs.same.apply (View.read (Elt F) ((Memref.whole main_v0).slice (Rect.unit ![1280, 0] S640x12288.size inb_S1920x12288_S640x12288_1280_0) (fun _ => rfl)).view fh0)⟩,
    ⟨Rect.unit ![640, 0] S640x12288.size inb_S1920x12288_S640x12288_640_0,
      ReadAs.same.apply (View.read (Elt F) ((Memref.whole main_v0).slice (Rect.unit ![640, 0] S640x12288.size inb_S1920x12288_S640x12288_640_0) (fun _ => rfl)).view fh0)⟩,
    ⟨Rect.unit ![0, 0] S640x12288.size inb_S1920x12288_S640x12288_0_0,
      ReadAs.same.apply (View.read (Elt F) ((Memref.whole main_v0).slice (Rect.unit ![0, 0] S640x12288.size inb_S1920x12288_S640x12288_0_0) (fun _ => rfl)).view fh0)⟩]

/-- The third sequence read back from the scratch is its rows. -/
theorem copies2 : arg10.view.readCov (copies c fh0) (Rect.unit (s := S1920x12288) ![1280, 0] S640x12288.size inb_S1920x12288_S640x12288_1280_0).toLoadRect = rows c fh0 2 := by
  unfold copies
  rw [View.readCov_cons_toLoadRect]; rfl

/-- The second sequence read back from the scratch is its rows. -/
theorem copies1 : arg10.view.readCov (copies c fh0) (Rect.unit (s := S1920x12288) ![640, 0] S640x12288.size inb_S1920x12288_S640x12288_640_0).toLoadRect = rows c fh0 1 := by
  unfold copies
  rw [View.readCov_skip _ _ _ _ _ (by decide), View.readCov_cons_toLoadRect]; rfl

/-- The first sequence read back from the scratch is its rows. -/
theorem copies0 : arg10.view.readCov (copies c fh0) (Rect.unit (s := S1920x12288) ![0, 0] S640x12288.size inb_S1920x12288_S640x12288_0_0).toLoadRect = rows c fh0 0 := by
  unfold copies
  rw [View.readCov_skip _ _ _ _ _ (by decide), View.readCov_skip _ _ _ _ _ (by decide), View.readCov_cons_toLoadRect]; rfl

/-- What is stored of the auxiliary terms. -/
theorem aux_pieces :
    (kernelRun0_A c arg0 harg0 arg2 harg2 arg3 harg3 arg4 harg4 arg5 harg5 arg6 harg6 arg7 harg7 arg8 harg8 arg9 harg9 arg10 harg10 x0 x1 x2 x3 fh0).1
      = all (auxPiece x0 x1 x2 x3 (rows c fh0)) := by
  have e0 := copies0 c arg10 fh0
  have e1 := copies1 c arg10 fh0
  have e2 := copies2 c arg10 fh0
  have e3 : View.ld (Val := Elt F) (e' := .bf16) x2 (Rect.unit ![0, 0] S160x12288.size inb_S160x12288_S160x12288_0_0) = x2 :=
    View.ld_unit_zero (by decide) _ _
  unfold kernelRun0_A; dsimp only
  sl_unfold_words
  rw [e0, e1, e2]
  simp only [View.readAt_eq_ld, harg0.read_unread, harg2.read_unread, harg3.read_unread, harg4.read_unread, e3]
  generalize rows c fh0 = X
  rfl

/-- What is stored of the z-loss terms. -/
theorem zterm_pieces :
    (kernelRun0_A c arg0 harg0 arg2 harg2 arg3 harg3 arg4 harg4 arg5 harg5 arg6 harg6 arg7 harg7 arg8 harg8 arg9 harg9 arg10 harg10 x0 x1 x2 x3 fh0).2.1
      = all (ztermPiece x0 x1 x2 (rows c fh0)) := by
  have e0 := copies0 c arg10 fh0
  have e1 := copies1 c arg10 fh0
  have e2 := copies2 c arg10 fh0
  have e3 : View.ld (Val := Elt F) (e' := .bf16) x2 (Rect.unit ![0, 0] S160x12288.size inb_S160x12288_S160x12288_0_0) = x2 :=
    View.ld_unit_zero (by decide) _ _
  unfold kernelRun0_A; dsimp only
  sl_unfold_words
  rw [e0, e1, e2]
  simp only [View.readAt_eq_ld, harg0.read_unread, harg2.read_unread, harg3.read_unread, harg4.read_unread, e3]
  generalize rows c fh0 = X
  rfl

/-- What is stored of the mean probabilities. -/
theorem mean_pieces :
    (kernelRun0_A c arg0 harg0 arg2 harg2 arg3 harg3 arg4 harg4 arg5 harg5 arg6 harg6 arg7 harg7 arg8 harg8 arg9 harg9 arg10 harg10 x0 x1 x2 x3 fh0).2.2.1
      = [⟨Rect.unit ![0, 0] S1x160.size inb_S1x160_S1x160_0_0, mean x0 x1 x2 (rows c fh0)⟩] := by
  have e0 := copies0 c arg10 fh0
  have e1 := copies1 c arg10 fh0
  have e2 := copies2 c arg10 fh0
  have e3 : View.ld (Val := Elt F) (e' := .bf16) x2 (Rect.unit ![0, 0] S160x12288.size inb_S160x12288_S160x12288_0_0) = x2 :=
    View.ld_unit_zero (by decide) _ _
  unfold kernelRun0_A; dsimp only
  sl_unfold_words
  rw [e0, e1, e2]
  simp only [View.readAt_eq_ld, harg0.read_unread, harg2.read_unread, harg3.read_unread, harg4.read_unread, e3]
  generalize rows c fh0 = X
  rfl

/-- What is stored of the log-sum-exps. -/
theorem lse_pieces :
    (kernelRun0_A c arg0 harg0 arg2 harg2 arg3 harg3 arg4 harg4 arg5 harg5 arg6 harg6 arg7 harg7 arg8 harg8 arg9 harg9 arg10 harg10 x0 x1 x2 x3 fh0).2.2.2.1
      = all (lsePiece x1 x2 (rows c fh0)) := by
  have e0 := copies0 c arg10 fh0
  have e1 := copies1 c arg10 fh0
  have e2 := copies2 c arg10 fh0
  have e3 : View.ld (Val := Elt F) (e' := .bf16) x2 (Rect.unit ![0, 0] S160x12288.size inb_S160x12288_S160x12288_0_0) = x2 :=
    View.ld_unit_zero (by decide) _ _
  unfold kernelRun0_A; dsimp only
  sl_unfold_words
  rw [e0, e1, e2]
  simp only [View.readAt_eq_ld, harg0.read_unread, harg2.read_unread, harg3.read_unread, harg4.read_unread, e3]
  generalize rows c fh0 = X
  rfl

/-- What is stored of the gradients. -/
theorem grad_pieces :
    (kernelRun0_A c arg0 harg0 arg2 harg2 arg3 harg3 arg4 harg4 arg5 harg5 arg6 harg6 arg7 harg7 arg8 harg8 arg9 harg9 arg10 harg10 x0 x1 x2 x3 fh0).2.2.2.2.1
      = all (gradPiece x0 x1 x2 x3 (rows c fh0)) := by
  have e0 := copies0 c arg10 fh0
  have e1 := copies1 c arg10 fh0
  have e2 := copies2 c arg10 fh0
  have e3 : View.ld (Val := Elt F) (e' := .bf16) x2 (Rect.unit ![0, 0] S160x12288.size inb_S160x12288_S160x12288_0_0) = x2 :=
    View.ld_unit_zero (by decide) _ _
  unfold kernelRun0_A; dsimp only
  sl_unfold_words
  rw [e0, e1, e2]
  simp only [View.readAt_eq_ld, harg0.read_unread, harg2.read_unread, harg3.read_unread, harg4.read_unread, e3]
  generalize rows c fh0 = X
  rfl

end

end Cert.KernelIdeal.Model

end
-- ==== Proof.Outs.lean ====
module

public import proofs.«01_k».proof.Proof.Groups
public import proofs.«01_k».proof.Proof.Bridge
public import proofs.«01_k».proof.Proof.Gen.KernelIdeal.Frame

/-! What the body leaves in its five results, as functions of the arrays it reads. -/

@[expose] public section

set_option maxRecDepth 16384

noncomputable section

namespace Cert.KernelIdeal.Model

open Idealize.ShloMosaic Idealize.ShloMosaic.TcCoe Cert.KernelIdeal.Gen

/-- A piece of all groups is one group's. -/
theorem mem_all {α : Type} {f : Fin 3 → Fin 5 → α} {p : α} (h : p ∈ all f) : ∃ b s, p = f b s := by
  simp only [all, List.mem_cons, List.not_mem_nil, or_false] at h
  rcases h with h | h | h | h | h | h | h | h | h | h | h | h | h | h | h <;> exact ⟨_, _, h⟩

/-- A lane of a group lies at its token. -/
theorem row_emb (b : Fin 3) (s : Fin 5) (o : Fin 1) (j : Fin 128) : (rowRect b s).emb (ix2 o j) = ix2 b (tok s j) := by
  funext a
  fin_cases a
  · exact Fin.ext (by show b.val + 1 * o.val = b.val; omega)
  · exact Fin.ext (by show 128 * s.val + 1 * j.val = 128 * s.val + j.val; omega)

/-- An expert's lane of a group lies at its token. -/
theorem dl_emb (b : Fin 3) (s : Fin 5) (o : Fin 1) (i : Fin 160) (j : Fin 128) : (dlRect b s).emb (ix3 o i j) = ix3 b i (tok s j) := by
  funext a
  fin_cases a
  · exact Fin.ext (by show b.val + 1 * o.val = b.val; omega)
  · exact Fin.ext (by show 0 + 1 * i.val = i.val; omega)
  · exact Fin.ext (by show 128 * s.val + 1 * j.val = 128 * s.val + j.val; omega)

section
variable (x0 : Vec Ideal S3 .i32) (x1 : Vec Ideal S3x640 .f32) (x2 : Vec Ideal S160x12288 .bf16) (x3 : Vec Ideal S3x6x640 .i32)
  (X : Fin 3 → Vec Ideal S640x12288 .fp8e4m3)

/-- The load-balancing terms of all tokens. -/
def auxOut : Vec Ideal S3x640 .f32 := fun y => Spec.aux (lens x0) (choices x3) (logits x1 x2 X) (y 0) (y 1)
/-- The squared-logarithm terms of all tokens. -/
def ztermOut : Vec Ideal S3x640 .f32 := fun y => Spec.zterm (lens x0) (logits x1 x2 X) (y 0) (y 1)
/-- The mean probabilities of all experts. -/
def meanOut : Vec Ideal S1x160 .f32 := fun y => Spec.meanP (lens x0) (logits x1 x2 X) (y 1)
/-- The logarithms of all tokens. -/
def lseOut : Vec Ideal S3x640 .f32 := fun y => Spec.lse (logits x1 x2 X) (y 0) (y 1)
/-- The gradient, experts before tokens. -/
def gradOut : Vec Ideal S3x160x640 .f32 := fun y => Spec.grad (lens x0) (choices x3) (logits x1 x2 X) (y 0) (y 2) (y 1)

/-- The fractions are real numbers. -/
theorem frac_real (j : Fin 128) (i : Fin 160) : lcol (frac x0 x3) j i = ((Spec.frac (lens x0) (choices x3) i : ℝ) : EReal) :=
  congrFun (frac_at x0 x3 j) i

/-- A group stores its part of the load-balancing terms. -/
theorem aux_piece (b : Fin 3) (s : Fin 5) : ∀ x, (auxPiece x0 x1 x2 x3 X b s).2 x = auxOut x0 x1 x2 x3 X ((auxPiece x0 x1 x2 x3 X b s).1.emb x) := by
  intro x
  obtain ⟨o, j, rfl⟩ : ∃ (o : Fin 1) (j : Fin 128), x = ix2 o j := ⟨_, _, eq_ix2 x⟩
  show aux (F := Ideal) _ _ _ _ (ix2 o j) = auxOut x0 x1 x2 x3 X ((rowRect b s).emb (ix2 o j))
  rw [row_emb, aux_at _ _ _ _ _ j (frac_real x0 x3 j), cAux_at, valid_at, z_at, frac_at]
  rfl

/-- A group stores its part of the squared-logarithm terms. -/
theorem zterm_piece (b : Fin 3) (s : Fin 5) : ∀ x, (ztermPiece x0 x1 x2 X b s).2 x = ztermOut x0 x1 x2 X ((ztermPiece x0 x1 x2 X b s).1.emb x) := by
  intro x
  obtain ⟨o, j, rfl⟩ : ∃ (o : Fin 1) (j : Fin 128), x = ix2 o j := ⟨_, _, eq_ix2 x⟩
  show zterm (F := Ideal) _ _ _ (ix2 o j) = ztermOut x0 x1 x2 X ((rowRect b s).emb (ix2 o j))
  rw [row_emb, zterm_at, cZ_at, valid_at, z_at]
  rfl

/-- A group stores its part of the logarithms. -/
theorem lse_piece (b : Fin 3) (s : Fin 5) : ∀ x, (lsePiece x1 x2 X b s).2 x = lseOut x1 x2 X ((lsePiece x1 x2 X b s).1.emb x) := by
  intro x
  obtain ⟨o, j, rfl⟩ : ∃ (o : Fin 1) (j : Fin 128), x = ix2 o j := ⟨_, _, eq_ix2 x⟩
  show lse (F := Ideal) _ (ix2 o j) = lseOut x1 x2 X ((rowRect b s).emb (ix2 o j))
  rw [row_emb, lse_at, z_at]
  rfl

/-- A group stores its part of the gradient. -/
theorem grad_piece (b : Fin 3) (s : Fin 5) : ∀ x, (gradPiece x0 x1 x2 x3 X b s).2 x = gradOut x0 x1 x2 x3 X ((gradPiece x0 x1 x2 x3 X b s).1.emb x) := by
  intro x
  obtain ⟨o, i, j, rfl⟩ : ∃ (o : Fin 1) (i : Fin 160) (j : Fin 128), x = ix3 o i j := ⟨_, _, _, eq_ix3 x⟩
  show grad (F := Ideal) _ _ _ _ _ (ix3 o i j) = gradOut x0 x1 x2 x3 X ((dlRect b s).emb (ix3 o i j))
  rw [dl_emb, grad_at _ _ _ _ _ _ _ _ j (frac_real x0 x3 j) (cAux_at x0 0 j) (cZ_at x0 0 j), valid_at, z_at, frac_at]
  rfl

/-- The mean probabilities are those of all experts. -/
theorem mean_eq : mean x0 x1 x2 X = meanOut x0 x1 x2 X := by
  funext x
  obtain ⟨o, i, rfl⟩ : ∃ (o : Fin 1) (i : Fin 160), x = ix2 o i := ⟨_, _, eq_ix2 x⟩
  exact mean_at x0 x1 x2 X o i

end

section
variable (c : Dev nD) (arg0 : Memref sig .tc .smem S3 .i32) (harg0 : arg0.IsWhole) (arg2 : Memref sig .tc .vmem S3x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S3x640 .f32) (harg5 : arg5.IsWhole) (arg6 : Memref sig .tc .vmem S3x640 .f32) (harg6 : arg6.IsWhole) (arg7 : Memref sig .tc .vmem S1x160 .f32) (harg7 : arg7.IsWhole) (arg8 : Memref sig .tc .vmem S3x640 .f32) (harg8 : arg8.IsWhole) (arg9 : Memref sig .tc .vmem S3x160x640 .f32) (harg9 : arg9.IsWhole) (arg10 : Memref sig .tc .vmem S1920x12288 .fp8e4m3) (harg10 : arg10.IsWhole)
    (x0 : Vec Ideal S3 .i32) (x1 : Vec Ideal S3x640 .f32) (x2 : Vec Ideal S160x12288 .bf16) (x3 : Vec Ideal S3x6x640 .i32) (fh0 : HbBuf0 (F := Ideal) c hbM0_0)

/-- The body leaves the load-balancing terms. -/
theorem out4_eq : out0_A_4 c arg0 harg0 arg2 harg2 arg3 harg3 arg4 harg4 arg5 harg5 arg6 harg6 arg7 harg7 arg8 harg8 arg9 harg9 arg10 harg10 x0 x1 x2 x3 fh0
    = auxOut x0 x1 x2 x3 (rows c fh0) := by
  unfold out0_A_4
  rw [View.read_writes_junk_eq_canon]
  funext y
  refine View.canon_apply_of_pieces _ _ (fun p hp => ?_) y (cover0_A_4 c arg0 harg0 arg2 harg2 arg3 harg3 arg4 harg4 arg5 harg5 arg6 harg6 arg7 harg7 arg8 harg8 arg9 harg9 arg10 harg10 x0 x1 x2 x3 fh0 y)
  rw [aux_pieces] at hp
  obtain ⟨b, s, rfl⟩ := mem_all hp
  exact aux_piece x0 x1 x2 x3 (rows c fh0) b s

/-- The body leaves the squared-logarithm terms. -/
theorem out5_eq : out0_A_5 c arg0 harg0 arg2 harg2 arg3 harg3 arg4 harg4 arg5 harg5 arg6 harg6 arg7 harg7 arg8 harg8 arg9 harg9 arg10 harg10 x0 x1 x2 x3 fh0
    = ztermOut x0 x1 x2 (rows c fh0) := by
  unfold out0_A_5
  rw [View.read_writes_junk_eq_canon]
  funext y
  refine View.canon_apply_of_pieces _ _ (fun p hp => ?_) y (cover0_A_5 c arg0 harg0 arg2 harg2 arg3 harg3 arg4 harg4 arg5 harg5 arg6 harg6 arg7 harg7 arg8 harg8 arg9 harg9 arg10 harg10 x0 x1 x2 x3 fh0 y)
  rw [zterm_pieces] at hp
  obtain ⟨b, s, rfl⟩ := mem_all hp
  exact zterm_piece x0 x1 x2 (rows c fh0) b s

/-- The body leaves the mean probabilities. -/
theorem out6_eq : out0_A_6 c arg0 harg0 arg2 harg2 arg3 harg3 arg4 harg4 arg5 harg5 arg6 harg6 arg7 harg7 arg8 harg8 arg9 harg9 arg10 harg10 x0 x1 x2 x3 fh0
    = meanOut x0 x1 x2 (rows c fh0) := by
  unfold out0_A_6
  rw [View.read_writes_junk_eq_canon, mean_pieces, View.canon_unit_zero (by decide), mean_eq]

/-- The body leaves the logarithms. -/
theorem out7_eq : out0_A_7 c arg0 harg0 arg2 harg2 arg3 harg3 arg4 harg4 arg5 harg5 arg6 harg6 arg7 harg7 arg8 harg8 arg9 harg9 arg10 harg10 x0 x1 x2 x3 fh0
    = lseOut x1 x2 (rows c fh0) := by
  unfold out0_A_7
  rw [View.read_writes_junk_eq_canon]
  funext y
  refine View.canon_apply_of_pieces _ _ (fun p hp => ?_) y (cover0_A_7 c arg0 harg0 arg2 harg2 arg3 harg3 arg4 harg4 arg5 harg5 arg6 harg6 arg7 harg7 arg8 harg8 arg9 harg9 arg10 harg10 x0 x1 x2 x3 fh0 y)
  rw [lse_pieces] at hp
  obtain ⟨b, s, rfl⟩ := mem_all hp
  exact lse_piece x1 x2 (rows c fh0) b s

/-- The body leaves the gradient. -/
theorem out8_eq : out0_A_8 c arg0 harg0 arg2 harg2 arg3 harg3 arg4 harg4 arg5 harg5 arg6 harg6 arg7 harg7 arg8 harg8 arg9 harg9 arg10 harg10 x0 x1 x2 x3 fh0
    = gradOut x0 x1 x2 x3 (rows c fh0) := by
  unfold out0_A_8
  rw [View.read_writes_junk_eq_canon]
  funext y
  refine View.canon_apply_of_pieces _ _ (fun p hp => ?_) y (cover0_A_8 c arg0 harg0 arg2 harg2 arg3 harg3 arg4 harg4 arg5 harg5 arg6 harg6 arg7 harg7 arg8 harg8 arg9 harg9 arg10 harg10 x0 x1 x2 x3 fh0 y)
  rw [grad_pieces] at hp
  obtain ⟨b, s, rfl⟩ := mem_all hp
  exact grad_piece x0 x1 x2 x3 (rows c fh0) b s

end

end Cert.KernelIdeal.Model

end
-- ==== Proof.KerRegion.lean ====
module

public import proofs.«01_k».proof.Proof.Outs
public import Idealize.ShloMosaic.Lib.Pipeline.ValueKit

/-! What the kernel's region reads, as functions of the arguments, and what it leaves in its five result arrays. -/

@[expose] public section

set_option maxRecDepth 16384

noncomputable section

namespace Cert.KernelIdeal.Value

open Idealize.ShloMosaic Idealize.ShloMosaic.TcCoe Cert.KernelIdeal.Gen Cert.KernelIdeal.Model

variable (m : (ℓ : Loc nD τ sig) → Buf (Elt Ideal) ℓ) (c : Dev nD)

/-- Window 0 stays at its first block. -/
theorem index0 : ∀ t : Fin cfg0.N, win0_0.index t = ![0] := by decide +kernel
/-- Window 1 stays at its first block. -/
theorem index1 : ∀ t : Fin cfg0.N, win0_1.index t = ![0, 0] := by decide +kernel
/-- Window 2 stays at its first block. -/
theorem index2 : ∀ t : Fin cfg0.N, win0_2.index t = ![0, 0] := by decide +kernel
/-- Window 3 stays at its first block. -/
theorem index3 : ∀ t : Fin cfg0.N, win0_3.index t = ![0, 0, 0] := by decide +kernel
/-- Window 4 stays at its first block. -/
theorem index4 : ∀ t : Fin cfg0.N, win0_4.index t = ![0, 0] := by decide +kernel
/-- Window 5 stays at its first block. -/
theorem index5 : ∀ t : Fin cfg0.N, win0_5.index t = ![0, 0] := by decide +kernel
/-- Window 6 stays at its first block. -/
theorem index6 : ∀ t : Fin cfg0.N, win0_6.index t = ![0, 0] := by decide +kernel
/-- Window 7 stays at its first block. -/
theorem index7 : ∀ t : Fin cfg0.N, win0_7.index t = ![0, 0] := by decide +kernel
/-- Window 8 stays at its first block. -/
theorem index8 : ∀ t : Fin cfg0.N, win0_8.index t = ![0, 0, 0] := by decide +kernel

/-- The lengths are read whole. -/
theorem iblk0 (t : Fin cfg0.N) : iblk m c 0 t = V m c main_arg4 := by
  funext j
  blk_simp [iblk]
  congr 1
  blk_ext [index0]
/-- The scales are read whole. -/
theorem iblk1 (t : Fin cfg0.N) : iblk m c 1 t = V m c main_arg1 := by
  funext j
  blk_simp [iblk]
  congr 1
  blk_ext [index1]
/-- The transposed router is read whole. -/
theorem iblk2 (t : Fin cfg0.N) : iblk m c 2 t = V m c main_v1 := by
  funext j
  blk_simp [iblk]
  congr 1
  blk_ext [index2]
/-- The transposed choices are read whole. -/
theorem iblk3 (t : Fin cfg0.N) : iblk m c 3 t = V m c main_v2 := by
  funext j
  blk_simp [iblk]
  congr 1
  blk_ext [index3]

/-- The array of load-balancing terms after the region. -/
theorem region4 : (dats m 0 c).arrAt 4 cfg0.N = auxOut (V m c main_arg4) (V m c main_arg1) (V m c main_v1) (V m c main_v2) (rows c (V m c main_v0)) := by
  refine (dats m 0 c).arrAt_eq_of_covers 4 _ (by decide +kernel) fun t hf y => ?_
  rw [after0_4]
  unfold outsAt0
  dsimp only
  rw [out4_eq, iblk0, iblk1, iblk2, iblk3]
  blk_simp
  congr 1
  blk_ext [index4]

/-- The array of squared-logarithm terms after the region. -/
theorem region5 : (dats m 0 c).arrAt 5 cfg0.N = ztermOut (V m c main_arg4) (V m c main_arg1) (V m c main_v1) (rows c (V m c main_v0)) := by
  refine (dats m 0 c).arrAt_eq_of_covers 5 _ (by decide +kernel) fun t hf y => ?_
  rw [after0_5]
  unfold outsAt0
  dsimp only
  rw [out5_eq, iblk0, iblk1, iblk2]
  blk_simp
  congr 1
  blk_ext [index5]

/-- The array of mean probabilities after the region. -/
theorem region6 : (dats m 0 c).arrAt 6 cfg0.N = meanOut (V m c main_arg4) (V m c main_arg1) (V m c main_v1) (rows c (V m c main_v0)) := by
  refine (dats m 0 c).arrAt_eq_of_covers 6 _ (by decide +kernel) fun t hf y => ?_
  rw [after0_6]
  unfold outsAt0
  dsimp only
  rw [out6_eq, iblk0, iblk1, iblk2]
  blk_simp
  congr 1
  blk_ext [index6]

/-- The array of logarithms after the region. -/
theorem region7 : (dats m 0 c).arrAt 7 cfg0.N = lseOut (V m c main_arg1) (V m c main_v1) (rows c (V m c main_v0)) := by
  refine (dats m 0 c).arrAt_eq_of_covers 7 _ (by decide +kernel) fun t hf y => ?_
  rw [after0_7]
  unfold outsAt0
  dsimp only
  rw [out7_eq, iblk1, iblk2]
  blk_simp
  congr 1
  blk_ext [index7]

/-- The array of the gradient after the region. -/
theorem region8 : (dats m 0 c).arrAt 8 cfg0.N = gradOut (V m c main_arg4) (V m c main_arg1) (V m c main_v1) (V m c main_v2) (rows c (V m c main_v0)) := by
  refine (dats m 0 c).arrAt_eq_of_covers 8 _ (by decide +kernel) fun t hf y => ?_
  rw [after0_8]
  unfold outsAt0
  dsimp only
  rw [out8_eq, iblk0, iblk1, iblk2, iblk3]
  blk_simp
  congr 1
  blk_ext [index8]

/-- The sequence lengths. -/
def lensA (b : Fin 3) : BitVec 32 := m ((c : Thread nD τ).loc main_arg4) (ix1 b)

/-- The experts the tokens chose. -/
def choicesA (b : Fin 3) (q : Fin 640) (k : Fin 6) : BitVec 32 := m ((c : Thread nD τ).loc main_arg3) (ix3 b q k)

/-- The tokens' logits. -/
def logitsA : Fin 3 → Fin 640 → Fin 160 → EReal :=
  Spec.logits (fun b q k => m ((c : Thread nD τ).loc main_arg0) (ix3 b q k)) (fun k e => m ((c : Thread nD τ).loc main_arg2) (ix2 k e))
    (fun b q => m ((c : Thread nD τ).loc main_arg1) (ix2 b q))

/-- The lengths the region reads. -/
theorem lens_eq : lens (V m c main_arg4) = lensA m c := by
  rw [V_main_arg4]
  rfl

/-- The choices the region reads. -/
theorem choices_eq : choices (V m c main_v2) = choicesA m c := by
  have h : V m c main_v2 = transpose S3x6x640 [0, 2, 1] (m ((c : Thread nD τ).loc main_arg3)) transposes_S3x640x6_S3x6x640_0_2_1 := by
    show V0 m c (Proc.devRef .tc main_v2) = _
    simp only [V0, hostOps0, List.flatten_cons, List.flatten_nil, List.append_nil, List.cons_append, List.nil_append]
    after_results_simp <;> rfl
  funext b q k
  rw [h]
  unfold choices choicesA
  pointwise

/-- The transposed router at an index. -/
theorem wT_at (e : Fin 160) (k : Fin 12288) : V m c main_v1 (ix2 e k) = m ((c : Thread nD τ).loc main_arg2) (ix2 k e) := by
  have h : V m c main_v1 = transpose S160x12288 [1, 0] (m ((c : Thread nD τ).loc main_arg2)) transposes_S12288x160_S160x12288_1_0 := by
    show V0 m c (Proc.devRef .tc main_v1) = _
    simp only [V0, hostOps0, List.flatten_cons, List.flatten_nil, List.append_nil, List.cons_append, List.nil_append]
    after_results_simp <;> rfl
  rw [h]
  pointwise

/-- The activations with the two leading axes joined. -/
theorem rows_flat (x : S3x640x12288.Idx → EReal) (b : Fin 3) (q : Fin 640) (k : Fin 12288) :
    shapeCast S1920x12288 x shapeCasts_S3x640x12288_S1920x12288 (ix2 ⟨b.val * 640 + q.val, by omega⟩ k) = x (ix3 b q k) := by
  refine shapeCast_apply _ _ _ _ ?_
  rewrite [Shape.rowMajor_val_two, Shape.rowMajor_val_three]
  rfl

/-- The codes of a sequence at an index. -/
theorem rows_at (b : Fin 3) (q : Fin 640) (k : Fin 12288) :
    rows c (V m c main_v0) b (ix2 q k) = m ((c : Thread nD τ).loc main_arg0) (ix3 b q k) := by
  have h : V m c main_v0 = shapeCast S1920x12288 (m ((c : Thread nD τ).loc main_arg0)) shapeCasts_S3x640x12288_S1920x12288 := by
    show V0 m c (Proc.devRef .tc main_v0) = _
    simp only [V0, hostOps0, List.flatten_cons, List.flatten_nil, List.append_nil, List.cons_append, List.nil_append]
    after_results_simp <;> rfl
  refine Eq.trans ?_ (rows_flat (m ((c : Thread nD τ).loc main_arg0)) b q k)
  refine Eq.trans ?_ (congrFun h _)
  show V m c main_v0 _ = V m c main_v0 _
  congr 1
  funext a
  fin_cases a
  · exact Fin.ext (by show 640 * b.val + 1 * q.val = b.val * 640 + q.val; omega)
  · exact Fin.ext (by show 0 + 1 * k.val = k.val; omega)

/-- The logits over what the region reads are those over the arguments. -/
theorem logits_eq : logits (V m c main_arg1) (V m c main_v1) (rows c (V m c main_v0)) = logitsA m c := by
  funext b q e
  rw [V_main_arg1]
  exact congrArg (fun x : EReal => x * _) (Finset.sum_congr rfl fun k _ =>
    congrArg₂ (fun x y : EReal => x * y) (rows_at m c b q k) (wT_at m c e k))

end Cert.KernelIdeal.Value

end
-- ==== Proof.KerRun.lean ====
module

public import proofs.«01_k».proof.Proof.KerRegion

/-! What the kernel's program leaves in its results, as functions of its arguments. -/

@[expose] public section

set_option maxRecDepth 16384

noncomputable section

namespace Cert.KernelIdeal.Value

open Idealize.ShloMosaic Idealize.ShloMosaic.TcCoe Cert.KernelIdeal.Gen Cert.KernelIdeal.Model

variable (m : (ℓ : Loc nD τ sig) → Buf (Elt Ideal) ℓ) (c : Dev nD)

/-- The load-balancing terms. -/
theorem aux_eq : (dats m 0 c).arrAt 4 cfg0.N = fun i => Spec.aux (lensA m c) (choicesA m c) (logitsA m c) (i 0) (i 1) := by
  rw [region4]
  unfold auxOut
  rw [lens_eq, choices_eq, logits_eq]
  rfl

/-- The squared-logarithm terms. -/
theorem zterm_eq : (dats m 0 c).arrAt 5 cfg0.N = fun i => Spec.zterm (lensA m c) (logitsA m c) (i 0) (i 1) := by
  rw [region5]
  unfold ztermOut
  rw [lens_eq, logits_eq]
  rfl

/-- The logarithms of the sums of exponentials. -/
theorem lse_eq : (dats m 0 c).arrAt 7 cfg0.N = fun i => Spec.lse (logitsA m c) (i 0) (i 1) := by
  rw [region7]
  unfold lseOut
  rw [logits_eq]
  rfl

/-- The mean probabilities. -/
theorem mean_eq : Pipeline.afterTail₀ cfgs (dats m) 0 (V0 m) [hostOps1] c main_v4
    = fun i => Spec.meanP (lensA m c) (logitsA m c) (i 0) := by
  have h : Pipeline.afterTail₀ cfgs (dats m) 0 (V0 m) [hostOps1] c main_v4
      = shapeCast S160 ((dats m 0 c).arrAt 6 cfg0.N) shapeCasts_S1x160_S160 := by
    unfold Pipeline.afterTail₀
    simp only [hostOps1, List.flatten_cons, List.flatten_nil, List.append_nil, List.cons_append, List.nil_append]
    after_results_simp
    exact congrArg (fun x => shapeCast S160 x shapeCasts_S1x160_S160) (Pipeline.withArrays_arr spec0 launch0.win.arr_inj c (V0 m c) _ 6)
  rw [h, region6]
  unfold meanOut
  rw [lens_eq, logits_eq]
  funext i
  obtain ⟨e, rfl⟩ : ∃ e, i = ix1 e := ⟨_, eq_ix1 i⟩
  pointwise

/-- The gradient. -/
theorem grad_eq : Pipeline.afterTail₀ cfgs (dats m) 0 (V0 m) [hostOps1] c main_v5
    = fun i => Spec.grad (lensA m c) (choicesA m c) (logitsA m c) (i 0) (i 1) (i 2) := by
  have h : Pipeline.afterTail₀ cfgs (dats m) 0 (V0 m) [hostOps1] c main_v5
      = transpose S3x640x160 [0, 2, 1] ((dats m 0 c).arrAt 8 cfg0.N) transposes_S3x160x640_S3x640x160_0_2_1 := by
    unfold Pipeline.afterTail₀
    simp only [hostOps1, List.flatten_cons, List.flatten_nil, List.append_nil, List.cons_append, List.nil_append]
    after_results_simp
    exact congrArg (fun x => transpose S3x640x160 [0, 2, 1] x transposes_S3x160x640_S3x640x160_0_2_1)
      (Pipeline.withArrays_arr spec0 launch0.win.arr_inj c (V0 m c) _ 8)
  rw [h, region8]
  unfold gradOut
  rw [lens_eq, choices_eq, logits_eq]
  funext i
  obtain ⟨b, q, e, rfl⟩ : ∃ b q e, i = ix3 b q e := ⟨_, _, _, eq_ix3 i⟩
  pointwise

/-- The kernel's program ends with its five results at these functions of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3_0) = (fun i => Spec.aux (lensA m c) (choicesA m c) (logitsA m c) (i 0) (i 1))
      ∧ r.2.mem ((c.tc : Thread nD τ).loc main_v3_1) = (fun i => Spec.zterm (lensA m c) (logitsA m c) (i 0) (i 1))
      ∧ r.2.mem ((c.tc : Thread nD τ).loc main_v4) = (fun i => Spec.meanP (lensA m c) (logitsA m c) (i 0))
      ∧ r.2.mem ((c.tc : Thread nD τ).loc main_v3_3) = (fun i => Spec.lse (logitsA m c) (i 0) (i 1))
      ∧ r.2.mem ((c.tc : Thread nD τ).loc main_v5) = (fun i => Spec.grad (lensA m c) (choicesA m c) (logitsA m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 4).trans (aux_eq m c), ((h c).1 5).trans (zterm_eq m c),
      ((h c).2 main_v4 (Pipeline.mem_restRefs_of main_v4 (by decide) (by decide))).trans (mean_eq m c),
      ((h c).1 7).trans (lse_eq m c),
      ((h c).2 main_v5 (Pipeline.mem_restRefs_of main_v5 (by decide) (by decide))).trans (grad_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 0).trans (((dats m 0 c).arrAt_in 0 rfl _).trans ((A_eq m c 0).trans (V_main_arg4 m c)))⟩) (run_main m ρ)

end Cert.KernelIdeal.Value

end
-- ==== Proof.Fiber.lean ====
module

public import Idealize.ShloMosaic.Lib.Pointwise

/-! Sums over the leading axes of a rank 3 and of a rank 4 array: the source indices that drop to a result index. -/

@[expose] public section

namespace Cert.Fiber

open Idealize.ShloMosaic

variable {n0 n1 n2 n3 : Nat}

/-- The indices above `e` when the two leading axes are dropped. -/
theorem fiber3 (h : (⟨3, ![n0, n1, n2]⟩ : Shape).ReducesTo [0, 1] ⟨1, ![n2]⟩) (e : Fin n2)
    (i : (⟨3, ![n0, n1, n2]⟩ : Shape).Idx) : h.drop i = ix1 e ↔ ∃ k : Fin n0 × Fin n1, ix3 k.1 k.2 e = i := by
  constructor
  · intro w
    refine ⟨(i 0, i 1), ?_⟩
    funext a; apply Fin.ext
    match a with
    | ⟨0, _⟩ => rfl
    | ⟨1, _⟩ => rfl
    | ⟨2, _⟩ => exact (congrArg Fin.val (congrFun w ⟨0, Nat.one_pos⟩)).symm
  · rintro ⟨k, rfl⟩
    funext b
    apply Fin.ext
    match b with
    | ⟨0, _⟩ => rfl

/-- A sum over what drops to `e` is the sum over the two leading axes. -/
theorem sum3 (h : (⟨3, ![n0, n1, n2]⟩ : Shape).ReducesTo [0, 1] ⟨1, ![n2]⟩) (e : Fin n2) {M : Type*} [AddCommMonoid M]
    (v : (⟨3, ![n0, n1, n2]⟩ : Shape).Idx → M) :
    ∑ i ∈ Finset.univ.filter (fun i => h.drop i = ix1 e), v i = ∑ b : Fin n0, ∑ q : Fin n1, v (ix3 b q e) := by
  refine (Finset.sum_filter_eq_sum_of_fiber _ (fun k : Fin n0 × Fin n1 => ix3 k.1 k.2 e)
    (fun _ _ w => Prod.ext (congrFun w 0) (congrFun w 1)) (fiber3 h e) v).trans ?_
  simp only [Fintype.sum_prod_type]

/-- The indices above `e` when the three leading axes are dropped. -/
theorem fiber4 (h : (⟨4, ![n0, n1, n2, n3]⟩ : Shape).ReducesTo [0, 1, 2] ⟨1, ![n3]⟩) (e : Fin n3)
    (i : (⟨4, ![n0, n1, n2, n3]⟩ : Shape).Idx) :
    h.drop i = ix1 e ↔ ∃ k : Fin n0 × Fin n1 × Fin n2, ix4 k.1 k.2.1 k.2.2 e = i := by
  constructor
  · intro w
    refine ⟨(i 0, i 1, i 2), ?_⟩
    funext a; apply Fin.ext
    match a with
    | ⟨0, _⟩ => rfl
    | ⟨1, _⟩ => rfl
    | ⟨2, _⟩ => rfl
    | ⟨3, _⟩ => exact (congrArg Fin.val (congrFun w ⟨0, Nat.one_pos⟩)).symm
  · rintro ⟨k, rfl⟩
    funext b
    apply Fin.ext
    match b with
    | ⟨0, _⟩ => rfl

/-- A sum over what drops to `e` is the sum over the three leading axes. -/
theorem sum4 (h : (⟨4, ![n0, n1, n2, n3]⟩ : Shape).ReducesTo [0, 1, 2] ⟨1, ![n3]⟩) (e : Fin n3) {M : Type*} [AddCommMonoid M]
    (v : (⟨4, ![n0, n1, n2, n3]⟩ : Shape).Idx → M) :
    ∑ i ∈ Finset.univ.filter (fun i => h.drop i = ix1 e), v i = ∑ b : Fin n0, ∑ q : Fin n1, ∑ k : Fin n2, v (ix4 b q k e) := by
  refine (Finset.sum_filter_eq_sum_of_fiber _ (fun k : Fin n0 × Fin n1 × Fin n2 => ix4 k.1 k.2.1 k.2.2 e)
    (fun _ _ w => Prod.ext (congrFun w 0) (Prod.ext (congrFun w 1) (congrFun w 2))) (fiber4 h e) v).trans ?_
  simp only [Fintype.sum_prod_type]

end Cert.Fiber
-- ==== Proof.RefRead.lean ====
module

public import proofs.«01_k».proof.Proof.Spec
public import proofs.«01_k».proof.Proof.Fiber
public import proofs.«01_k».proof.Proof.Gen.ReferenceIdeal.Read

/-! The reference's results, read at an index over the parameters of its later operations. -/

@[expose] public section

set_option maxRecDepth 16384

noncomputable section

namespace Cert.ReferenceIdeal.Read

open Idealize.ShloMosaic Cert.ReferenceIdeal.Gen Cert.Consts

variable (x1 : (⟨S3x640, .f32⟩ : BufTy).Contents (Elt Ideal)) (r0 : (⟨S1920x160, .f32⟩ : BufTy).Contents (Elt Ideal))
  (e0 : (⟨S3x640, .i1⟩ : BufTy).Contents (Elt Ideal)) (e1 : (⟨S_, .f32⟩ : BufTy).Contents (Elt Ideal))
  (e2 : (⟨S160, .f32⟩ : BufTy).Contents (Elt Ideal))

/-- The reference's logits of a token. -/
def col (b : Fin 3) (q : Fin 640) (e : Fin 160) : EReal := val_main_v30 (F := Ideal) x1 r0 (ix3 b q e)

/-- The logits from the product and the scales. -/
theorem col_eq (b : Fin 3) (q : Fin 640) (e : Fin 160) :
    col x1 r0 b q e = r0 (ix2 ⟨b.val * 640 + q.val, by omega⟩ e) * x1 (ix2 b q) := by
  unfold col
  pointwise [val_main_v30, val_main_v29, val_main_v28, val_main_v27]

/-- The maximum over the experts. -/
theorem v31_at (b : Fin 3) (q : Fin 640) : val_main_v31 (F := Ideal) x1 r0 (ix2 b q) = Row.top (col x1 r0 b q) := by
  pointwise [val_main_v31, val_main_cst_3]
  rw [neg_inf]
  rfl

/-- A logit less the maximum. -/
theorem v34_at (b : Fin 3) (q : Fin 640) (e : Fin 160) :
    val_main_v34 (F := Ideal) x1 r0 (ix3 b q e) = col x1 r0 b q e - Row.top (col x1 r0 b q) := by
  pointwise [val_main_v34, val_main_v33, val_main_v32]
  rw [v31_at]
  rfl

/-- The logarithm of the sum of the exponentials. -/
theorem v37_at (b : Fin 3) (q : Fin 640) : val_main_v37 (F := Ideal) x1 r0 (ix2 b q) = Ideal.log (Row.tot (col x1 r0 b q)) := by
  pointwise [val_main_v37, val_main_v36, val_main_v35, val_main_cst_4]
  simp only [v34_at]
  rfl

/-- The logarithm of the sum of exponentials of the logits. -/
theorem v38_at (b : Fin 3) (q : Fin 640) : val_main_v38 (F := Ideal) x1 r0 (ix2 b q) = Row.lse (col x1 r0 b q) := by
  pointwise [val_main_v38]
  rw [v37_at, v31_at]
  rfl

/-- The probability. -/
theorem v42_at (b : Fin 3) (q : Fin 640) (e : Fin 160) :
    val_main_v42 (F := Ideal) x1 r0 (ix3 b q e) = Row.prob (col x1 r0 b q) e := by
  pointwise [val_main_v42, val_main_v41, val_main_v40, val_main_v39]
  rw [v37_at, v34_at]
  rfl

/-- The fractions averaged by the probabilities. -/
theorem v51_at (b : Fin 3) (q : Fin 640) :
    val_main_v51 (F := Ideal) x1 r0 e2 (ix2 b q) = Row.mean (col x1 r0 b q) (fun e => e2 (ix1 e)) := by
  pointwise [val_main_v51, val_main_v50, val_main_v49, val_main_v48, val_main_cst_7]
  simp only [v42_at]
  rfl

/-- The zero the selections fall back to. -/
theorem zero_at : (id (constant (F := Ideal) S_ .f32 0#32) : FVec Ideal S_ .f32) ix0 = 0 := Ideal.ofBits_zero_f32

/-- The probability, zero past the end of the sequence. -/
theorem v44_at (b : Fin 3) (q : Fin 640) (e : Fin 160) :
    val_main_v44 (F := Ideal) x1 r0 e0 (ix3 b q e) = Scalar.select (e0 (ix2 b q)) (Row.prob (col x1 r0 b q) e) 0 := by
  pointwise [val_main_v44, val_main_v43, val_main_cst_5, val_main_call0_v2, val_main_call0_v1, val_main_call0_v0]
  rw [v42_at, zero_at]

section
variable (L : Fin 3 → BitVec 32) (I : Fin 3 → Fin 640 → Fin 6 → BitVec 32)
  (h0 : ∀ b q, e0 (ix2 b q) = Spec.ok L b q) (h1 : e1 ix0 = (Spec.inv L : EReal)) (h2 : ∀ e, e2 (ix1 e) = Spec.fracE L I e)

include h0 h1 in
/-- The squared-logarithm terms. -/
theorem v60_at (b : Fin 3) (q : Fin 640) :
    val_main_v60 (F := Ideal) x1 r0 e0 e1 (ix2 b q) = Spec.zterm L (col x1 r0) b q := by
  pointwise [val_main_v60, val_main_v59, val_main_v58, val_main_v57, val_main_v53, val_main_cst_9, val_main_call2_v1, val_main_call2_v0, val_main_cst_11]
  rw [v38_at, zero_at, z_lit, h0, h1, Spec.zterm, EReal.coe_mul]

include h0 h1 in
/-- The mean probabilities. -/
theorem v47_at (e : Fin 160) : val_main_v47 (F := Ideal) x1 r0 e0 e1 (ix1 e) = Spec.meanP L (col x1 r0) e := by
  pointwise [val_main_v47, val_main_v46, val_main_v45, val_main_cst_6]
  rw [Ideal.hostReduceAdd, Fiber.sum3, zero_add, h1, Spec.meanP]
  simp only [v44_at, h0]

include h0 h1 h2

/-- The load-balancing terms. -/
theorem v56_at (b : Fin 3) (q : Fin 640) :
    val_main_v56 (F := Ideal) x1 r0 e0 e1 e2 (ix2 b q) = Spec.aux L I (col x1 r0) b q := by
  pointwise [val_main_v56, val_main_v55, val_main_v54, val_main_v52, val_main_cst_8, val_main_call1_v1, val_main_call1_v0, val_main_cst_10]
  simp only [v51_at, aux_lit, h0, h1, h2]
  rw [zero_at, Spec.aux, EReal.coe_mul]

/-- The gradient. -/
theorem v76_at (b : Fin 3) (q : Fin 640) (e : Fin 160) :
    val_main_v76 (F := Ideal) x1 r0 e0 e1 e2 (ix3 b q e) = Spec.grad L I (col x1 r0) b q e := by
  pointwise [val_main_v76, val_main_v75, val_main_v74, val_main_v73, val_main_v72, val_main_v71, val_main_v70, val_main_v69, val_main_v68, val_main_v67, val_main_v66, val_main_v65, val_main_v64, val_main_v63, val_main_v62, val_main_v61, val_main_cst_12, val_main_cst_13, val_main_v52, val_main_v53, val_main_cst_8, val_main_cst_9, val_main_call3_v2, val_main_call3_v1, val_main_call3_v0]
  simp only [v42_at, v51_at, v38_at, aux_lit, z_lit, two_lit, h0, h1, h2]
  rw [zero_at, Spec.grad, EReal.coe_mul, EReal.coe_mul, EReal.coe_mul]

end

end Cert.ReferenceIdeal.Read

end
-- ==== Proof.RefRegion.lean ====
module

public import proofs.«01_k».proof.Proof.RefRead
public import proofs.«01_k».proof.Proof.Count
public import proofs.«01_k».proof.Proof.Gen.ReferenceIdeal.Run
public import Idealize.ShloMosaic.Lib.Pipeline.ValueKit

/-! What the reference computes before its later operations: the product of codes and router, which tokens are valid,
    the reciprocal of their number, and the experts' fractions. -/

@[expose] public section

set_option maxRecDepth 16384

noncomputable section

namespace Cert.ReferenceIdeal.Read

open Idealize.ShloMosaic Idealize.ShloMosaic.TcCoe Cert.ReferenceIdeal.Gen Cert.Consts

variable (m : (ℓ : Loc nD τ sig) → Buf (Elt Ideal) ℓ)

/-- The product the region computes, from the blocks it reads. -/
def prod (x0 : Vec Ideal S1920x12288 .fp8e4m3) (x1 : Vec Ideal S12288x160 .bf16) : Vec Ideal S1920x160 .f32 :=
  k0_pay1 (F := Ideal) x0 x1

/-- The product at an index is a sum over the hidden axis. -/
theorem prod_at (x0 : Vec Ideal S1920x12288 .fp8e4m3) (x1 : Vec Ideal S12288x160 .bf16) (t : Fin 1920) (e : Fin 160) :
    prod x0 x1 (ix2 t e) = ∑ k, x0 (ix2 t k) * x1 (ix2 k e) := by
  pointwise [prod, k0_pay1]

/-- The first block's start. -/
theorem hz : (![0, 0] : Fin 2 → Nat) = fun _ => 0 := funext fun a => by fin_cases a <;> rfl

/-- The codes stay at their first block. -/
theorem index0 : ∀ t : Fin cfg0.N, win0_0.index t = ![0, 0] := by decide +kernel
/-- The router stays at its first block. -/
theorem index1 : ∀ t : Fin cfg0.N, win0_1.index t = ![0, 0] := by decide +kernel
/-- The product stays at its first block. -/
theorem index2 : ∀ t : Fin cfg0.N, win0_2.index t = ![0, 0] := by decide +kernel

/-- The codes are read whole. -/
theorem iblk0 (c : Dev nD) (t : Fin cfg0.N) : iblk m c 0 t = V m c main_v25 := by
  funext j
  blk_simp [iblk]
  congr 1
  blk_ext [index0]
/-- The router is read whole. -/
theorem iblk1 (c : Dev nD) (t : Fin cfg0.N) : iblk m c 1 t = V m c main_arg2 := by
  funext j
  blk_simp [iblk]
  congr 1
  blk_ext [index1]

/-- The product's array after the region. -/
theorem region_eq (c : Dev nD) :
    Value.reg_main_v26 m c = prod (V m c main_v25) (V m c main_arg2) := by
  unfold Value.reg_main_v26
  refine (dats m 0 c).arrAt_eq_of_covers 2 _ (by decide +kernel) fun t hf y => ?_
  rw [after0_2]
  unfold out0_2
  rw [View.canon_unit_zero hz, View.ld_unit_zero hz, View.ld_unit_zero hz]
  blk_simp
  rw [iblk0, iblk1, prod]
  congr 1
  blk_ext [index2]

/-- The activations with the two leading axes joined. -/
theorem rows_flat (x : S3x640x12288.Idx → EReal) (b : Fin 3) (q : Fin 640) (k : Fin 12288) :
    shapeCast S1920x12288 x shapeCasts_S3x640x12288_S1920x12288 (ix2 ⟨b.val * 640 + q.val, by omega⟩ k) = x (ix3 b q k) := by
  refine shapeCast_apply _ _ _ _ ?_
  rewrite [Shape.rowMajor_val_two, Shape.rowMajor_val_three]
  rfl

/-- The flattened codes at an index. -/
theorem v25_at (c : Dev nD) (b : Fin 3) (q : Fin 640) (k : Fin 12288) :
    V m c main_v25 (ix2 ⟨b.val * 640 + q.val, by omega⟩ k) = m ((c : Thread nD τ).loc main_arg0) (ix3 b q k) := by
  have h : V m c main_v25 = shapeCast S1920x12288 (m ((c : Thread nD τ).loc main_arg0)) shapeCasts_S3x640x12288_S1920x12288 := by
    show V0 m c (Proc.devRef .tc main_v25) = _
    simp only [V0, hostOps0, List.flatten_cons, List.flatten_nil, List.append_nil, List.cons_append, List.nil_append]
    after_results_simp <;> rfl
  rw [h]
  exact rows_flat (m ((c : Thread nD τ).loc main_arg0)) b q k

/-- Which tokens are valid. -/
theorem valid_at (c : Dev nD) (b : Fin 3) (q : Fin 640) :
    Value.exitV m c (Proc.devRef .tc main_v5) (ix2 b q) = Spec.ok (fun b => m ((c : Thread nD τ).loc main_arg4) (ix1 b)) b q := by
  rw [Value.exit_main_v5]
  pointwise [Spec.ok]

/-- The sum of the lengths. -/
theorem sum_lens (x : S3.Idx → BitVec 32) :
    Finset.fold IntOp.addi (0#32) x {i | reducesTo_S3_S_d0.drop i = ix0} = x (ix1 0) + x (ix1 1) + x (ix1 2) := by
  rw [Count.fold_addi, Shape.ReducesTo.sum_fiber_r1_a0, Fin.sum_univ_three]

/-- The reference's inverse token count. -/
theorem inv_read (x : S3.Idx → BitVec 32) :
    Ideal.div 1 (max (FloatOps.sitofp .f32 (Finset.fold IntOp.addi (0#32) x {i | reducesTo_S3_S_d0.drop i = ix0}) : Ideal .f32) 1)
      = (Spec.inv (fun b => x (ix1 b)) : EReal) := by
  rw [sum_lens, Count.inv_eq]
  rfl

/-- The reference's number of selections of one expert. -/
theorem hits_read (y : S3x640x6.Idx → BitVec 32) (x : S3.Idx → BitVec 32) (e : Fin 160) :
    Finset.fold IntOp.addi (0#32) (fun i : S3x640x6x160.Idx =>
        BitVec.setWidth 32 (IntOp.andi (IntOp.cmpi CmpIPredicate.eq (y (ix3 (i 0) (i 1) (i 2))) (BitVec.ofNat 32 (i 3).val))
          (IntOp.cmpi CmpIPredicate.slt (BitVec.ofNat 32 (i 1).val) (x (ix1 (i 0))))))
        {i | reducesTo_S3x640x6x160_S160_d0_1_2.drop i = ix1 e}
      = ((Spec.hits (fun b => x (ix1 b)) (fun b q k => y (ix3 b q k)) e : Nat) : BitVec 32) := by
  rw [Count.fold_addi, Fiber.sum4]
  have h : ∀ (b : Fin 3) (q : Fin 640) (k : Fin 6),
      BitVec.setWidth 32 (IntOp.andi (IntOp.cmpi CmpIPredicate.eq (y (ix3 b q k)) (BitVec.ofNat 32 e.val))
        (IntOp.cmpi CmpIPredicate.slt (BitVec.ofNat 32 q.val) (x (ix1 b))))
        = ((Spec.hit (fun b => x (ix1 b)) (fun b q k => y (ix3 b q k)) b q k e : Nat) : BitVec 32) := by
    intro b q k
    rw [Count.setWidth_bit]
    simp only [Count.andi_eq_one, Count.cmpi_eq_iff, Spec.hit, Spec.ok, and_comm]
  simp only [Spec.hits, Nat.cast_sum, ← h]
  rfl

/-- The fraction from the number of selections. -/
theorem fracE_eq (L : Fin 3 → BitVec 32) (I : Fin 3 → Fin 640 → Fin 6 → BitVec 32) (e : Fin 160) :
    (FloatOps.sitofp .f32 ((Spec.hits L I e : Nat) : BitVec 32) : Ideal .f32)
      * Ideal.div (Spec.inv L : EReal) (Ideal.ofBits .f32 0x40C00000#32) = Spec.fracE L I e := by
  rw [Consts.six_lit, Ideal.div_coe (by norm_num)]
  show ((((Spec.hits L I e : Nat) : BitVec 32).toInt : ℝ) : EReal) * _ = _
  rw [Count.toInt_natCast _ (Count.hits_le L I e), ← EReal.coe_mul, ← EReal.coe_mul]
  rfl

/-- One over the number of tokens. -/
theorem inv_at (c : Dev nD) :
    Value.exitV m c (Proc.devRef .tc main_v9) ix0 = (Spec.inv (fun b => m ((c : Thread nD τ).loc main_arg4) (ix1 b)) : EReal) := by
  rw [Value.exit_main_v9]
  pointwise
  exact inv_read (m ((c : Thread nD τ).loc main_arg4))

/-- The experts' fractions. -/
theorem frac_at (c : Dev nD) (e : Fin 160) :
    Value.exitV m c (Proc.devRef .tc main_v24) (ix1 e)
      = Spec.fracE (fun b => m ((c : Thread nD τ).loc main_arg4) (ix1 b)) (fun b q k => m ((c : Thread nD τ).loc main_arg3) (ix3 b q k)) e := by
  rw [Value.exit_main_v24]
  pointwise
  refine Eq.trans ?_ (fracE_eq _ _ e)
  exact congrArg₂ (fun (n : BitVec 32) (v : EReal) => (FloatOps.sitofp .f32 n : Ideal .f32) * Ideal.div v (Ideal.ofBits .f32 0x40C00000#32))
    (hits_read (m ((c : Thread nD τ).loc main_arg3)) (m ((c : Thread nD τ).loc main_arg4)) e)
    (inv_read (m ((c : Thread nD τ).loc main_arg4)))

end Cert.ReferenceIdeal.Read

end
-- ==== Proof.RefRun.lean ====
module

public import proofs.«01_k».proof.Proof.RefRegion

/-! What the reference leaves in its results, as functions of its arguments. -/

@[expose] public section

set_option maxRecDepth 16384

noncomputable section

namespace Cert.ReferenceIdeal.Read

open Idealize.ShloMosaic Idealize.ShloMosaic.TcCoe Cert.ReferenceIdeal.Gen Cert.Consts

variable (m : (ℓ : Loc nD τ sig) → Buf (Elt Ideal) ℓ) (c : Dev nD)

/-- The sequence lengths. -/
def lens (b : Fin 3) : BitVec 32 := m ((c : Thread nD τ).loc main_arg4) (ix1 b)

/-- The experts the tokens chose. -/
def choices (b : Fin 3) (q : Fin 640) (k : Fin 6) : BitVec 32 := m ((c : Thread nD τ).loc main_arg3) (ix3 b q k)

/-- The tokens' logits. -/
def logits : Fin 3 → Fin 640 → Fin 160 → EReal :=
  Spec.logits (fun b q k => m ((c : Thread nD τ).loc main_arg0) (ix3 b q k)) (fun k e => m ((c : Thread nD τ).loc main_arg2) (ix2 k e))
    (fun b q => m ((c : Thread nD τ).loc main_arg1) (ix2 b q))

/-- The later operations' logits are those over the arguments. -/
theorem logits_eq :
    col (Value.exitV m c (Proc.devRef .tc main_arg1)) (Value.exitV m c (Proc.devRef .tc main_v26)) = logits m c := by
  funext b q e
  rw [col_eq, Value.exit_main_v26, region_eq, prod_at, Value.exit_main_arg1]
  exact congrArg (fun x : EReal => x * _) (Finset.sum_congr rfl fun k _ =>
    congrArg₂ (fun x y : EReal => x * y) (v25_at m c b q k) (congrFun (V_main_arg2 m c) (ix2 k e)))

/-- The load-balancing terms. -/
theorem aux_eq : Pipeline.afterTail₀ cfgs (Gen.dats m) 0 (Gen.V0 m) [hostOps1, hostOps1_1, hostOps1_2, hostOps1_3, hostOps1_4, hostOps1_5, hostOps1_6, hostOps1_7] c main_v56
    = fun i => Spec.aux (lens m c) (choices m c) (logits m c) (i 0) (i 1) := by
  rw [Value.fin_main_v56, val_main_v56_eq, ← logits_eq]
  funext i
  obtain ⟨b, q, rfl⟩ : ∃ b q, i = ix2 b q := ⟨_, _, eq_ix2 i⟩
  apply v56_at (h0 := valid_at m c) (h1 := inv_at m c) (h2 := frac_at m c)

/-- The squared-logarithm terms. -/
theorem zterm_eq : Pipeline.afterTail₀ cfgs (Gen.dats m) 0 (Gen.V0 m) [hostOps1, hostOps1_1, hostOps1_2, hostOps1_3, hostOps1_4, hostOps1_5, hostOps1_6, hostOps1_7] c main_v60
    = fun i => Spec.zterm (lens m c) (logits m c) (i 0) (i 1) := by
  rw [Value.fin_main_v60, val_main_v60_eq, ← logits_eq]
  funext i
  obtain ⟨b, q, rfl⟩ : ∃ b q, i = ix2 b q := ⟨_, _, eq_ix2 i⟩
  apply v60_at (h0 := valid_at m c) (h1 := inv_at m c)

/-- The mean probabilities. -/
theorem mean_eq : Pipeline.afterTail₀ cfgs (Gen.dats m) 0 (Gen.V0 m) [hostOps1, hostOps1_1, hostOps1_2, hostOps1_3, hostOps1_4, hostOps1_5, hostOps1_6, hostOps1_7] c main_v47
    = fun i => Spec.meanP (lens m c) (logits m c) (i 0) := by
  rw [Value.fin_main_v47, val_main_v47_eq, ← logits_eq]
  funext i
  obtain ⟨e, rfl⟩ : ∃ e, i = ix1 e := ⟨_, eq_ix1 i⟩
  apply v47_at (h0 := valid_at m c) (h1 := inv_at m c)

/-- The logarithms of the sums of exponentials. -/
theorem lse_eq : Pipeline.afterTail₀ cfgs (Gen.dats m) 0 (Gen.V0 m) [hostOps1, hostOps1_1, hostOps1_2, hostOps1_3, hostOps1_4, hostOps1_5, hostOps1_6, hostOps1_7] c main_v38
    = fun i => Spec.lse (logits m c) (i 0) (i 1) := by
  rw [Value.fin_main_v38, val_main_v38_eq, ← logits_eq]
  funext i
  obtain ⟨b, q, rfl⟩ : ∃ b q, i = ix2 b q := ⟨_, _, eq_ix2 i⟩
  apply v38_at

/-- The gradient. -/
theorem grad_eq : Pipeline.afterTail₀ cfgs (Gen.dats m) 0 (Gen.V0 m) [hostOps1, hostOps1_1, hostOps1_2, hostOps1_3, hostOps1_4, hostOps1_5, hostOps1_6, hostOps1_7] c main_v76
    = fun i => Spec.grad (lens m c) (choices m c) (logits m c) (i 0) (i 1) (i 2) := by
  rw [Value.fin_main_v76, val_main_v76_eq, ← logits_eq]
  funext i
  obtain ⟨b, q, e, rfl⟩ : ∃ b q e, i = ix3 b q e := ⟨_, _, _, eq_ix3 i⟩
  apply v76_at (h0 := valid_at m c) (h1 := inv_at m c) (h2 := frac_at m c)

/-- The reference ends with its five results at these functions of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v56) = (fun i => Spec.aux (lens m c) (choices m c) (logits m c) (i 0) (i 1))
      ∧ r.2.mem ((c.tc : Thread nD τ).loc main_v60) = (fun i => Spec.zterm (lens m c) (logits m c) (i 0) (i 1))
      ∧ r.2.mem ((c.tc : Thread nD τ).loc main_v47) = (fun i => Spec.meanP (lens m c) (logits m c) (i 0))
      ∧ r.2.mem ((c.tc : Thread nD τ).loc main_v38) = (fun i => Spec.lse (logits m c) (i 0) (i 1))
      ∧ r.2.mem ((c.tc : Thread nD τ).loc main_v76) = (fun i => Spec.grad (lens m c) (choices m c) (logits m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, h3, h4, ha⟩ := h c
    exact ⟨h0.trans ((Value.fin_main_v56 m c).symm.trans (aux_eq m c)),
      h1.trans ((Value.fin_main_v60 m c).symm.trans (zterm_eq m c)),
      h2.trans ((Value.fin_main_v47 m c).symm.trans (mean_eq m c)),
      h3.trans ((Value.fin_main_v38 m c).symm.trans (lse_eq m c)),
      h4.trans ((Value.fin_main_v76 m c).symm.trans (grad_eq m c)), ha⟩) (Value.run m ρ)

end Cert.ReferenceIdeal.Read

end
-- ==== Proof.Agree.lean ====
module

public import proofs.«01_k».proof.Defs
public import proofs.«01_k».proof.Proof.KerRun
public import proofs.«01_k».proof.Proof.RefRun

/-! The kernel and the reference compute the same results. -/

@[expose] public section

noncomputable section

namespace Cert.Agree

open Idealize.ShloMosaic Idealize.ShloMosaic.TcCoe

/-- From equal arguments, the kernel's program and the reference end with equal results, all five, over the
    extended reals; both leave their arguments unchanged. -/
theorem results : Cert.algebraic_KernelIdeal_ReferenceIdeal
    (hKernelIdeal := Cert.KernelIdeal.Gen.facts) (hReferenceIdeal := Cert.ReferenceIdeal.Gen.facts) := by
  intro m ρ m' ρ' _ hag
  have hl : ∀ c, Cert.ReferenceIdeal.Read.lens m' c = Cert.KernelIdeal.Value.lensA m c := fun c =>
    funext fun b => congrFun (hag c).2.2.2.2 (ix1 b)
  have hc : ∀ c, Cert.ReferenceIdeal.Read.choices m' c = Cert.KernelIdeal.Value.choicesA m c := fun c =>
    funext fun b => funext fun q => funext fun k => congrFun (hag c).2.2.2.1 (ix3 b q k)
  have hz : ∀ c, Cert.ReferenceIdeal.Read.logits m' c = Cert.KernelIdeal.Value.logitsA m c := by
    intro c
    obtain ⟨h0, h1, h2, -, -⟩ := hag c
    funext b q e
    exact congrArg₂ (fun x y : EReal => x * y)
      (Finset.sum_congr rfl fun k _ => congrArg₂ (fun x y : EReal => x * y) (congrFun h0 (ix3 b q k)) (congrFun h2 (ix2 k e)))
      (congrFun h1 (ix2 b q))
  refine ⟨_, _, _, _, _, Cert.KernelIdeal.Value.run m ρ, ?_⟩
  refine (θ_run _ _ _).mono (fun _ h c => ?_) (Cert.ReferenceIdeal.Read.run m' ρ')
  have h' := h c
  rw [hl c, hc c, hz c] at h'
  exact h'

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

public import proofs.«01_k».proof.Proof.Gen.ReferenceIdeal.Run
public import proofs.«01_k».proof.Proof.Gen.ReferenceIdeal.Read
public import proofs.«01_k».proof.Proof.Agree

@[expose] public section

noncomputable section

namespace Cert.Proof

open Idealize.ShloMosaic Idealize.SL.Sem Cert.Kernel

/-- The claims of the certificate: the three programs run and leave their arguments as they were; the one
    constant that is read as a real number, a sixth, rounds to the constant the kernel has; and the kernel with
    that constant and the reference give the same five results from the same arguments, over the extended reals. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    IdealRules.named_const.statement Cert.KernelIdeal.κ "sixth" .f32 0x3E2AAAAB#32 ((1 / 6 : ℝ) : EReal) rfl,
    Cert.Agree.results⟩

end Cert.Proof

end
